-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x2880 : Shape := ⟨3, ![2, 128, 2880]⟩
abbrev S8640x2880 : Shape := ⟨2, ![8640, 2880]⟩
abbrev S8640 : Shape := ⟨1, ![8640]⟩
abbrev S18x12 : Shape := ⟨2, ![18, 12]⟩
abbrev S40x240 : Shape := ⟨2, ![40, 240]⟩
abbrev S480x40 : Shape := ⟨2, ![480, 40]⟩
abbrev S_ : Shape := ⟨0, ![]⟩

class Facts : Prop where
  bitsLt_bf16_f32 : FTy.bits .bf16 < FTy.bits .f32
  bcast_S_S2x128x2880 : S_.BroadcastsInDim S2x128x2880 (![] : Fin 0 → Fin S2x128x2880.rank)
  reducesTo_S2x128x2880_S_d0_1_2 : S2x128x2880.ReducesTo [0, 1, 2] S_
  h_S_ : 0 < S_.numel

variable [Facts]

def fn {F : FTy → Type} [FloatOps F] (main_arg0 : FVec F S2x128x2880 .bf16) (main_arg1 : FVec F S8640x2880 .fp8e4m3) (main_arg2 : FVec F S8640 .f32) (main_arg3 : FVec F S18x12 .bf16) (main_arg4 : FVec F S40x240 .bf16) (main_arg5 : FVec F S480x40 .bf16) : IVec S_ 1 :=
  let main_v0 : FVec F S2x128x2880 .f32 := (extf .f32 · bitsLt_bf16_f32) main_arg0
  let main_v1 : FVec F S2x128x2880 .f32 := Host.absf main_v0
  let main_cst : FVec F S_ .f32 := constant S_ .f32 0x7F7F0000#32
  let main_v2 : FVec F S2x128x2880 .f32 := broadcastInDim S2x128x2880 ![] bcast_S_S2x128x2880 main_cst
  let main_v3 : IVec S2x128x2880 1 := cmpf .ole main_v1 main_v2
  let main_c : IVec S_ 1 := constantI S_ 1 1#1
  let main_v4 : IVec S_ 1 := (fun x v => Host.reduce IntOp.andi x v reducesTo_S2x128x2880_S_d0_1_2 h_S_) main_v3 main_c
  main_v4
-- ==== Kernel.lean ====
abbrev S2x128x2880 : Shape := ⟨3, ![2, 128, 2880]⟩
abbrev S8640x2880 : Shape := ⟨2, ![8640, 2880]⟩
abbrev S8640 : Shape := ⟨1, ![8640]⟩
abbrev S18x12 : Shape := ⟨2, ![18, 12]⟩
abbrev S40x240 : Shape := ⟨2, ![40, 240]⟩
abbrev S480x40 : Shape := ⟨2, ![480, 40]⟩
abbrev S2x2880x128 : Shape := ⟨3, ![2, 2880, 128]⟩
abbrev S2880x8640 : Shape := ⟨2, ![2880, 8640]⟩
abbrev S12x18 : Shape := ⟨2, ![12, 18]⟩
abbrev S40x480 : Shape := ⟨2, ![40, 480]⟩
abbrev S2x8640x128 : Shape := ⟨3, ![2, 8640, 128]⟩
abbrev S2x128 : Shape := ⟨2, ![2, 128]⟩
abbrev S256x2880 : Shape := ⟨2, ![256, 2880]⟩
abbrev S12x480x256 : Shape := ⟨3, ![12, 480, 256]⟩
abbrev S288x192 : Shape := ⟨2, ![288, 192]⟩
abbrev S18x480x256 : Shape := ⟨3, ![18, 480, 256]⟩
abbrev S4 : Shape := ⟨1, ![4]⟩
abbrev S1 : Shape := ⟨1, ![1]⟩
abbrev S17 : Shape := ⟨1, ![17]⟩
abbrev S2 : Shape := ⟨1, ![2]⟩
abbrev S_ : Shape := ⟨0, ![]⟩
abbrev S2880x512 : Shape := ⟨2, ![2880, 512]⟩
abbrev S2880x448 : Shape := ⟨2, ![2880, 448]⟩
abbrev S12x192 : Shape := ⟨2, ![12, 192]⟩
abbrev S18x192 : Shape := ⟨2, ![18, 192]⟩
abbrev S16x192 : Shape := ⟨2, ![16, 192]⟩
abbrev S1x192 : Shape := ⟨2, ![1, 192]⟩
abbrev S1x2880x128 : Shape := ⟨3, ![1, 2880, 128]⟩
abbrev S2880x128 : Shape := ⟨2, ![2880, 128]⟩
abbrev S128 : Shape := ⟨1, ![128]⟩
abbrev S1x128 : Shape := ⟨2, ![1, 128]⟩
abbrev S128x2880 : Shape := ⟨2, ![128, 2880]⟩
abbrev S1x240x128 : Shape := ⟨3, ![1, 240, 128]⟩
abbrev S240x128 : Shape := ⟨2, ![240, 128]⟩
abbrev S240x256 : Shape := ⟨2, ![240, 256]⟩
abbrev S40x256 : Shape := ⟨2, ![40, 256]⟩
abbrev S480x256 : Shape := ⟨2, ![480, 256]⟩
abbrev S1x480x256 : Shape := ⟨3, ![1, 480, 256]⟩
abbrev S12x16x256 : Shape := ⟨3, ![12, 16, 256]⟩
abbrev S192x256 : Shape := ⟨2, ![192, 256]⟩
abbrev S288x256 : Shape := ⟨2, ![288, 256]⟩
abbrev S18x16x256 : Shape := ⟨3, ![18, 16, 256]⟩
abbrev S256x512 : Shape := ⟨2, ![256, 512]⟩
abbrev S512 : Shape := ⟨1, ![512]⟩
abbrev S1x512 : Shape := ⟨2, ![1, 512]⟩
abbrev S1x128x256 : Shape := ⟨3, ![1, 128, 256]⟩
abbrev S128x256 : Shape := ⟨2, ![128, 256]⟩
abbrev S128x128 : Shape := ⟨2, ![128, 128]⟩
abbrev S1x128x128 : Shape := ⟨3, ![1, 128, 128]⟩
abbrev S1x96x256 : Shape := ⟨3, ![1, 96, 256]⟩
abbrev S96x256 : Shape := ⟨2, ![96, 256]⟩
abbrev S1x32x256 : Shape := ⟨3, ![1, 32, 256]⟩
abbrev S32x256 : Shape := ⟨2, ![32, 256]⟩
abbrev S2x512x128 : Shape := ⟨3, ![2, 512, 128]⟩
abbrev S1x64x256 : Shape := ⟨3, ![1, 64, 256]⟩
abbrev S64x256 : Shape := ⟨2, ![64, 256]⟩
abbrev S256x448 : Shape := ⟨2, ![256, 448]⟩
abbrev S448 : Shape := ⟨1, ![448]⟩
abbrev S1x448 : Shape := ⟨2, ![1, 448]⟩
abbrev S128x64 : Shape := ⟨2, ![128, 64]⟩
abbrev S64x128 : Shape := ⟨2, ![64, 128]⟩
abbrev S1x64x128 : Shape := ⟨3, ![1, 64, 128]⟩
abbrev S2x448x128 : Shape := ⟨3, ![2, 448, 128]⟩
abbrev S2x128x8640 : Shape := ⟨3, ![2, 128, 8640]⟩

abbrev nBuf : Space → Nat
  | .hbm => 15
  | .vmem => 13
  | .smem => 0
  | _ => 0

abbrev bufTy : (tb : Table) → Fin (tcTables nBuf tb) → BufTy
  | .hbm, ⟨0, _⟩ => ⟨S2x128x2880, .bf16⟩
  | .hbm, ⟨1, _⟩ => ⟨S8640x2880, .fp8e4m3⟩
  | .hbm, ⟨2, _⟩ => ⟨S8640, .f32⟩
  | .hbm, ⟨3, _⟩ => ⟨S18x12, .bf16⟩
  | .hbm, ⟨4, _⟩ => ⟨S40x240, .bf16⟩
  | .hbm, ⟨5, _⟩ => ⟨S480x40, .bf16⟩
  | .hbm, ⟨6, _⟩ => ⟨S2x2880x128, .bf16⟩
  | .hbm, ⟨7, _⟩ => ⟨S2880x8640, .fp8e4m3⟩
  | .hbm, ⟨8, _⟩ => ⟨S12x18, .bf16⟩
  | .hbm, ⟨9, _⟩ => ⟨S40x480, .bf16⟩
  | .hbm, ⟨10, _⟩ => ⟨S2x8640x128, .bf16⟩
  | .hbm, ⟨11, _⟩ => ⟨S2x2880x128, .fp8e4m3⟩
  | .hbm, ⟨12, _⟩ => ⟨S2x128, .f32⟩
  | .hbm, ⟨13, _⟩ => ⟨S2x128x8640, .bf16⟩
  | .hbm, ⟨14, _⟩ => ⟨S2x128x2880, .fp8e4m3⟩
  | .local _ .vmem, ⟨0, _⟩ => ⟨S2x2880x128, .bf16⟩
  | .local _ .vmem, ⟨1, _⟩ => ⟨S2880x8640, .fp8e4m3⟩
  | .local _ .vmem, ⟨2, _⟩ => ⟨S8640, .f32⟩
  | .local _ .vmem, ⟨3, _⟩ => ⟨S12x18, .bf16⟩
  | .local _ .vmem, ⟨4, _⟩ => ⟨S40x240, .bf16⟩
  | .local _ .vmem, ⟨5, _⟩ => ⟨S40x480, .bf16⟩
  | .local _ .vmem, ⟨6, _⟩ => ⟨S2x2880x128, .fp8e4m3⟩
  | .local _ .vmem, ⟨7, _⟩ => ⟨S2x128, .f32⟩
  | .local _ .vmem, ⟨8, _⟩ => ⟨S2x8640x128, .bf16⟩
  | .local _ .vmem, ⟨9, _⟩ => ⟨S256x2880, .fp8e4m3⟩
  | .local _ .vmem, ⟨10, _⟩ => ⟨S12x480x256, .bf16⟩
  | .local _ .vmem, ⟨11, _⟩ => ⟨S288x192, .bf16⟩
  | .local _ .vmem, ⟨12, _⟩ => ⟨S18x480x256, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [FloatOps F]

abbrev grid0 : Pipeline.Grid := .none
-- ==== ReferenceIdeal.lean ====
abbrev S2x128x2880 : Shape := ⟨3, ![2, 128, 2880]⟩
abbrev S8640x2880 : Shape := ⟨2, ![8640, 2880]⟩
abbrev S8640 : Shape := ⟨1, ![8640]⟩
abbrev S18x12 : Shape := ⟨2, ![18, 12]⟩
abbrev S40x240 : Shape := ⟨2, ![40, 240]⟩
abbrev S480x40 : Shape := ⟨2, ![480, 40]⟩
abbrev S2x128x12x240 : Shape := ⟨4, ![2, 128, 12, 240]⟩
abbrev S2x128x12x40 : Shape := ⟨4, ![2, 128, 12, 40]⟩
abbrev S2x128x12x480 : Shape := ⟨4, ![2, 128, 12, 480]⟩
abbrev S2x128x480x18 : Shape := ⟨4, ![2, 128, 480, 18]⟩
abbrev S2x128x18x480 : Shape := ⟨4, ![2, 128, 18, 480]⟩
abbrev S1x1x8640 : Shape := ⟨3, ![1, 1, 8640]⟩
abbrev S2x128x8640 : Shape := ⟨3, ![2, 128, 8640]⟩
abbrev S2x128 : Shape := ⟨2, ![2, 128]⟩
abbrev S2x128x1 : Shape := ⟨3, ![2, 128, 1]⟩
abbrev S1x1x254 : Shape := ⟨3, ![1, 1, 254]⟩
abbrev S2x128x254 : Shape := ⟨3, ![2, 128, 254]⟩
abbrev S256x2880 : Shape := ⟨2, ![256, 2880]⟩
abbrev S256x8640 : Shape := ⟨2, ![256, 8640]⟩

abbrev nBuf : Space → Nat
  | .hbm => 18
  | .vmem => 7
  | .smem => 0
  | _ => 0

abbrev bufTy : (tb : Table) → Fin (tcTables nBuf tb) → BufTy
  | .hbm, ⟨0, _⟩ => ⟨S2x128x2880, .bf16⟩
  | .hbm, ⟨1, _⟩ => ⟨S8640x2880, .fp8e4m3⟩
  | .hbm, ⟨2, _⟩ => ⟨S8640, .f32⟩
  | .hbm, ⟨3, _⟩ => ⟨S18x12, .bf16⟩
  | .hbm, ⟨4, _⟩ => ⟨S40x240, .bf16⟩
  | .hbm, ⟨5, _⟩ => ⟨S480x40, .bf16⟩
  | .hbm, ⟨6, _⟩ => ⟨S2x128x12x240, .bf16⟩
  | .hbm, ⟨7, _⟩ => ⟨S2x128x12x40, .f32⟩
  | .hbm, ⟨8, _⟩ => ⟨S2x128x12x40, .bf16⟩
  | .hbm, ⟨9, _⟩ => ⟨S2x128x12x480, .f32⟩
  | .hbm, ⟨10, _⟩ => ⟨S2x128x12x480, .bf16⟩
  | .hbm, ⟨11, _⟩ => ⟨S2x128x480x18, .f32⟩
  | .hbm, ⟨12, _⟩ => ⟨S2x128x18x480, .f32⟩
  | .hbm, ⟨13, _⟩ => ⟨S1x1x8640, .f32⟩
  | .hbm, ⟨14, _⟩ => ⟨S2x128x8640, .f32⟩
  | .hbm, ⟨15, _⟩ => ⟨S2x128x8640, .bf16⟩
  | .hbm, ⟨16, _⟩ => ⟨S2x128x2880, .fp8e4m3⟩
  | .hbm, ⟨17, _⟩ => ⟨S2x128, .f32⟩
  | .local _ .vmem, ⟨0, _⟩ => ⟨S2x128x2880, .bf16⟩
  | .local _ .vmem, ⟨1, _⟩ => ⟨S8640x2880, .fp8e4m3⟩
  | .local _ .vmem, ⟨2, _⟩ => ⟨S1x1x8640, .f32⟩
  | .local _ .vmem, ⟨3, _⟩ => ⟨S2x128x8640, .f32⟩
  | .local _ .vmem, ⟨4, _⟩ => ⟨S2x128x8640, .bf16⟩
  | .local _ .vmem, ⟨5, _⟩ => ⟨S2x128x2880, .fp8e4m3⟩
  | .local _ .vmem, ⟨6, _⟩ => ⟨S2x128, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x128x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8640x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x8640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x2880 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
  The run of the kernel's body at explicit contents: what its buffers and its three results hold afterwards.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-! ## The operands -/

abbrev sM0 : Memref sig .tc .vmem S2x2880x128 .bf16 := Memref.whole cc0_scratch0
abbrev sM1 : Memref sig .tc .vmem S2880x8640 .fp8e4m3 := Memref.whole cc0_scratch1
abbrev sM2 : Memref sig .tc .vmem S8640 .f32 := Memref.whole cc0_scratch2
abbrev sM3 : Memref sig .tc .vmem S12x18 .bf16 := Memref.whole cc0_scratch3
abbrev sM4 : Memref sig .tc .vmem S40x240 .bf16 := Memref.whole cc0_scratch4
abbrev sM5 : Memref sig .tc .vmem S40x480 .bf16 := Memref.whole cc0_scratch5
abbrev sM6 : Memref sig .tc .vmem S2x2880x128 .fp8e4m3 := Memref.whole cc0_scratch6
abbrev sM7 : Memref sig .tc .vmem S2x128 .f32 := Memref.whole cc0_scratch7
abbrev sM8 : Memref sig .tc .vmem S2x8640x128 .bf16 := Memref.whole cc0_scratch8
abbrev sM9 : Memref sig .tc .vmem S256x2880 .fp8e4m3 := Memref.whole cc0_scratch9
abbrev sM10 : Memref sig .tc .vmem S12x480x256 .bf16 := Memref.whole cc0_scratch10
abbrev sM11 : Memref sig .tc .vmem S288x192 .bf16 := Memref.whole cc0_scratch11
abbrev sM12 : Memref sig .tc .vmem S18x480x256 .f32 := Memref.whole cc0_scratch12
abbrev hM0 : Memref sig .tc .hbm S2x2880x128 .bf16 := Memref.whole main_v0
abbrev hM1 : Memref sig .tc .hbm S2880x8640 .fp8e4m3 := Memref.whole main_v1
abbrev hM2 : Memref sig .tc .hbm S8640 .f32 := Memref.whole main_arg2
abbrev hM3 : Memref sig .tc .hbm S12x18 .bf16 := Memref.whole main_v2
abbrev hM4 : Memref sig .tc .hbm S40x240 .bf16 := Memref.whole main_arg4
abbrev hM5 : Memref sig .tc .hbm S40x480 .bf16 := Memref.whole main_v3
abbrev hM6 : Memref sig .tc .hbm S2x8640x128 .bf16 := Memref.whole main_v4_0
abbrev hM7 : Memref sig .tc .hbm S2x2880x128 .fp8e4m3 := Memref.whole main_v4_1
abbrev hM8 : Memref sig .tc .hbm S2x128 .f32 := Memref.whole main_v4_2

abbrev BufAt (c : Dev nD) {sp : Space} {S : Shape} {e : EltTy} (M : Memref sig .tc sp S e) : Type := Buf (Elt F) (M.view.loc (c : Thread nD τ))
abbrev ptAt (c : Dev nD) {sp : Space} {S : Shape} {e : EltTy} (M : Memref sig .tc sp S e) (f : BufAt (F := F) c M) : sProp 𝕄 :=
  M.view.loc (c : Thread nD τ) ↦{fullShare} f

set_option maxRecDepth 8192 in
set_option maxHeartbeats 4000000 in
set_option sl_exec.resultNames true in
noncomputable def kernelRun0 (c : Dev nD) (f0 : BufAt (F := F) c sM0) (f1 : BufAt (F := F) c sM1) (f2 : BufAt (F := F) c sM2) (f3 : BufAt (F := F) c sM3) (f4 : BufAt (F := F) c sM4) (f5 : BufAt (F := F) c sM5) (f6 : BufAt (F := F) c sM6) (f7 : BufAt (F := F) c sM7) (f8 : BufAt (F := F) c sM8) (f9 : BufAt (F := F) c sM9) (f10 : BufAt (F := F) c sM10) (f11 : BufAt (F := F) c sM11) (f12 : BufAt (F := F) c sM12)
    (h0 : BufAt (F := F) c hM0) (h1 : BufAt (F := F) c hM1) (h2 : BufAt (F := F) c hM2) (h3 : BufAt (F := F) c hM3) (h4 : BufAt (F := F) c hM4) (h5 : BufAt (F := F) c hM5) (h6 : BufAt (F := F) c hM6) (h7 : BufAt (F := F) c hM7) (h8 : BufAt (F := F) c hM8) :
    { G : BufAt (F := F) c hM6 × BufAt (F := F) c hM7 × BufAt (F := F) c hM8 //
      ∀ (W : Waits sig Unit) (K : PUnit → sProp 𝕄),
        iprop(ptAt c sM0 f0
            ∗ ptAt c sM1 f1
            ∗ ptAt c sM2 f2
            ∗ ptAt c sM3 f3
            ∗ ptAt c sM4 f4
            ∗ ptAt c sM5 f5
            ∗ ptAt c sM6 f6
            ∗ ptAt c sM7 f7
            ∗ ptAt c sM8 f8
            ∗ ptAt c sM9 f9
            ∗ ptAt c sM10 f10
            ∗ ptAt c sM11 f11
            ∗ ptAt c sM12 f12
            ∗ ptAt c hM0 h0
            ∗ ptAt c hM1 h1
            ∗ ptAt c hM2 h2
            ∗ ptAt c hM3 h3
            ∗ ptAt c hM4 h4
            ∗ ptAt c hM5 h5
            ∗ ptAt c hM6 h6
            ∗ ptAt c hM7 h7
            ∗ ptAt c hM8 h8
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 31) 0
            ∗ semVal ((c : Thread nD τ), SemLoc.dma 32) 0
            ∗ semVal ((c : Thread nD τ), SemLoc.dma 33) 0
            ∗ semVal ((c : Thread nD τ), SemLoc.dma 34) 0
            ∗ semVal ((c : Thread nD τ), SemLoc.dma 35) 0
            ∗ semVal ((c : Thread nD τ), SemLoc.dma 36) 0
            ∗ semVal ((c : Thread nD τ), SemLoc.dma 37) 0
            ∗ semVal ((c : Thread nD τ), SemLoc.dma 38) 0
            ∗ semVal ((c : Thread nD τ), SemLoc.dma 39) 0
            ∗ semVal ((c : Thread nD τ), SemLoc.dma 40) 0
            ∗ owes (c : Thread nD τ) 0 W
            ∗ (iprop((∃ d, ptAt c sM0 d)
                ∗ (∃ d, ptAt c sM1 d)
                ∗ (∃ d, ptAt c sM2 d)
                ∗ (∃ d, ptAt c sM3 d)
                ∗ (∃ d, ptAt c sM4 d)
                ∗ (∃ d, ptAt c sM5 d)
                ∗ (∃ d, ptAt c sM6 d)
                ∗ (∃ d, ptAt c sM7 d)
                ∗ (∃ d, ptAt c sM8 d)
                ∗ (∃ d, ptAt c sM9 d)
                ∗ (∃ d, ptAt c sM10 d)
                ∗ (∃ d, ptAt c sM11 d)
                ∗ (∃ d, ptAt c sM12 d)
                ∗ ptAt c hM0 h0
                ∗ ptAt c hM1 h1
                ∗ ptAt c hM2 h2
                ∗ ptAt c hM3 h3
                ∗ ptAt c hM4 h4
                ∗ ptAt c hM5 h5
                ∗ ptAt c hM6 G.1
                ∗ ptAt c hM7 G.2.1
                ∗ ptAt c hM8 G.2.2
                ∗ semVal ((c : Thread nD τ), SemLoc.dma 0) 0
                ∗ semVal ((c : Thread nD τ), SemLoc.dma 1) 0
                ∗ semVal ((c : Thread nD τ), SemLoc.dma 2) 0
                ∗ semVal ((c : Thread nD τ), SemLoc.dma 3) 0
                ∗ semVal ((c : Thread nD τ), SemLoc.dma 4) 0
                ∗ semVal ((c : Thread nD τ), SemLoc.dma 5) 0
                ∗ semVal ((c : Thread nD τ), SemLoc.dma 6) 0
                ∗ semVal ((c : Thread nD τ), SemLoc.dma 7) 0
                ∗ semVal ((c : Thread nD τ), SemLoc.dma 8) 0
                ∗ semVal ((c : Thread nD τ), SemLoc.dma 9) 0
                ∗ semVal ((c : Thread nD τ), SemLoc.dma 10) 0
                ∗ semVal ((c : Thread nD τ), SemLoc.dma 11) 0
                ∗ semVal ((c : Thread nD τ), SemLoc.dma 12) 0
                ∗ semVal ((c : Thread nD τ), SemLoc.dma 13) 0
                ∗ semVal ((c : Thread nD τ), SemLoc.dma 14) 0
                ∗ semVal ((c : Thread nD τ), SemLoc.dma 15) 0
                ∗ semVal ((c : Thread nD τ), SemLoc.dma 16) 0
                ∗ semVal ((c : Thread nD τ), SemLoc.dma 17) 0
                ∗ semVal ((c : Thread nD τ), SemLoc.dma 18) 0
                ∗ semVal ((c : Thread nD τ), SemLoc.dma 19) 0
                ∗ semVal ((c : Thread nD τ), SemLoc.dma 20) 0
                ∗ semVal ((c : Thread nD τ), SemLoc.dma 21) 0
                ∗ semVal ((c : Thread nD τ), SemLoc.dma 22) 0
                ∗ semVal ((c : Thread nD τ), SemLoc.dma 23) 0
                ∗ semVal ((c : Thread nD τ), SemLoc.dma 24) 0
                ∗ semVal ((c : Thread nD τ), SemLoc.dma 25) 0
                ∗ semVal ((c : Thread nD τ), SemLoc.dma 26) 0
                ∗ semVal ((c : Thread nD τ), SemLoc.dma 27) 0
                ∗ semVal ((c : Thread nD τ), SemLoc.dma 28) 0
                ∗ semVal ((c : Thread nD τ), SemLoc.dma 29) 0
                ∗ semVal ((c : Thread nD τ), SemLoc.dma 30) 0
                ∗ semVal ((c : Thread nD τ), SemLoc.dma 31) 0
                ∗ semVal ((c : Thread nD τ), SemLoc.dma 32) 0
                ∗ semVal ((c : Thread nD τ), SemLoc.dma 33) 0
                ∗ semVal ((c : Thread nD τ), SemLoc.dma 34) 0
                ∗ semVal ((c : Thread nD τ), SemLoc.dma 35) 0
                ∗ semVal ((c : Thread nD τ), SemLoc.dma 36) 0
                ∗ semVal ((c : Thread nD τ), SemLoc.dma 37) 0
                ∗ semVal ((c : Thread nD τ), SemLoc.dma 38) 0
                ∗ semVal ((c : Thread nD τ), SemLoc.dma 39) 0
                ∗ semVal ((c : Thread nD τ), SemLoc.dma 40) 0
                ∗ (∃ W', owes (c : Thread nD τ) 0 W')) -∗ K ⟨⟩))
          ⊢ wp frame (wpE (defs₀ (F := F)) Variants.none c none) Set.univ
              (cc0_fp8_lokr hM0 (Memref.isWhole_whole _) hM1 (Memref.isWhole_whole _) hM2 (Memref.isWhole_whole _) hM3 (Memref.isWhole_whole _) hM4 (Memref.isWhole_whole _) hM5 (Memref.isWhole_whole _) hM6 (Memref.isWhole_whole _) hM7 (Memref.isWhole_whole _) hM8 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) cc0_scratch13 cc0_scratch14 cc0_scratch15 cc0_scratch16 cc0_scratch17) K } := by
  refine ⟨⟨?_, ?_, ?_⟩, fun W K => ?run⟩
  case run =>
    simp only [cc0_fp8_lokr_eq_skeleton]; unfold cc0_fp8_lokr_skel
    iintro ⟨S0, S1, S2, S3, S4, S5, S6, S7, S8, S9, S10, S11, S12, H0, H1, H2, H3, H4, H5, H6, H7, H8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, HW, Hk⟩
    set_option sl_exec.rejoinFuel 200 in set_option sl_exec.rejoinHeartbeats 200000 in set_option sl_exec.dmaWindow true in sl_exec_parts
    sl_step
    iapply Hk

    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    iexists _; iexact HW

end Cert.Kernel.Hand

end
-- ==== Proof.KernelFrame.lean ====
/-
  The frame of the program: its body's run as the region's body obligation, the launch, and the six arguments unchanged.
-/
module

public import proofs.«01_k».proof.Proof.Gen.Kernel.Frame
public import proofs.«01_k».proof.Proof.KernelRun
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own transfer cells. -/
abbrev osem0 : Fin 41 → SemLoc sig := fun j => SemLoc.dma (⟨j.val, j.isLt⟩ : Fin 41)
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body's transfers read. -/
def H0 : Finset (Ref sig .tc) := {main_v0, main_v1, main_arg2, main_v2, main_arg4, main_v3}
theorem H0_sub : H0 ⊆ Pipeline.restRefs sig (cfg0.spec) := by decide
/-- The results the body's transfers write. -/
def R0 : Finset (Ref sig .tc) := {main_v4_0, main_v4_1, main_v4_2}
theorem R0_sub : R0 ⊆ Pipeline.restRefs sig (cfg0.spec) \ H0 := by decide
/-- What the lines after the region write. -/
def T0 : Finset (Ref sig .tc) := {main_v5, main_v6}

theorem hbmPts0_eq (c : Dev nD) :
    (bigSep H0 (fun b => ((c : Thread nD τ).loc b) ↦{fullShare} V m c b) : sProp 𝕄)
      = iprop(ptAt c hM0 (V m c main_v0) ∗ ptAt c hM1 (V m c main_v1) ∗ ptAt c hM2 (V m c main_arg2) ∗ ptAt c hM3 (V m c main_v2) ∗ ptAt c hM4 (V m c main_arg4) ∗ ptAt c hM5 (V m c main_v3)) := by
  rw [BI.bigSep_eq_bigSepL_of_eq [main_v0, main_v1, main_arg2, main_v2, main_arg4, main_v3] (by decide) (by decide)]; rfl
theorem resPts0_eq (c : Dev nD) (U : (b : Ref sig .tc) → Buf (Elt F) ((c : Thread nD τ).loc b)) :
    (bigSep R0 (fun b => ((c : Thread nD τ).loc b) ↦{fullShare} U b) : sProp 𝕄)
      = iprop(ptAt c hM6 (U main_v4_0) ∗ ptAt c hM7 (U main_v4_1) ∗ ptAt c hM8 (U main_v4_2)) := by
  rw [BI.bigSep_eq_bigSepL_of_eq [main_v4_0, main_v4_1, main_v4_2] (by decide) (by decide)]; rfl
theorem ownedPts0_eq (c : Dev nD) :
    (Pipeline.owned R0 c : sProp 𝕄)
      = iprop((∃ f, ptAt c hM6 f) ∗ (∃ f, ptAt c hM7 f) ∗ (∃ f, ptAt c hM8 f)) := by
  unfold Pipeline.owned; rw [BI.bigSep_eq_bigSepL_of_eq [main_v4_0, main_v4_1, main_v4_2] (by decide) (by decide)]; rfl

theorem PhiDR0_eq (c : Dev nD) :
    (Pipeline.ΦDR osem0 (cfg0.spec) H0 R0 (V m) c : sProp 𝕄)
      = iprop(iprop((∃ f, ptAt c sM0 f) ∗ (∃ f, ptAt c sM1 f) ∗ (∃ f, ptAt c sM2 f) ∗ (∃ f, ptAt c sM3 f) ∗ (∃ f, ptAt c sM4 f) ∗ (∃ f, ptAt c sM5 f) ∗ (∃ f, ptAt c sM6 f) ∗ (∃ f, ptAt c sM7 f) ∗ (∃ f, ptAt c sM8 f) ∗ (∃ f, ptAt c sM9 f) ∗ (∃ f, ptAt c sM10 f) ∗ (∃ f, ptAt c sM11 f) ∗ (∃ f, ptAt c sM12 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
          ∗ iprop(ptAt c hM0 (V m c main_v0) ∗ ptAt c hM1 (V m c main_v1) ∗ ptAt c hM2 (V m c main_arg2) ∗ ptAt c hM3 (V m c main_v2) ∗ ptAt c hM4 (V m c main_arg4) ∗ ptAt c hM5 (V m c main_v3))
          ∗ iprop((∃ f, ptAt c hM6 f) ∗ (∃ f, ptAt c hM7 f) ∗ (∃ f, ptAt c hM8 f))) := by
  rw [Pipeline.ΦDR_eq, scopedRest0_eq, ownSems00_eq, hbmPts0_eq, ownedPts0_eq]; try rfl

/-! ## The proof data and the body obligation -/

def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0

def bodyPre (c : Dev nD) (t : Fin cfg0.N) : sProp 𝕄 :=
  iprop((dats m 0 c).Φ t.castSucc ∗ (dats m 0 c).owesAt () t.castSucc ∗ BI.emp)
def bodyPost (c : Dev nD) (t : Fin cfg0.N) : sProp 𝕄 :=
  iprop((dats m 0 c).Φ t.succ ∗ (dats m 0 c).owesAt () t.succ ∗ BI.emp)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40⟩, ⟨H0, H1, H2, H3, H4, H5⟩, ⟨⟨%h6, H6⟩, ⟨%h7, H7⟩, ⟨%h8, H8⟩⟩⟩, ⟨%W, -, HW⟩, He⟩
  iapply ((kernelRun0 c f0 f1 f2 f3 f4 f5 f6 f7 f8 f9 f10 f11 f12 (V m c main_v0) (V m c main_v1) (V m c main_arg2) (V m c main_v2) (V m c main_arg4) (V m c main_v3) h6 h7 h8).2 W _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [HW]; · iexact HW
  iintro ⟨S0, S1, S2, S3, S4, S5, S6, S7, S8, S9, S10, S11, S12, H0, H1, H2, H3, H4, H5, H6, H7, H8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, ⟨%W', HW'⟩⟩
  isplitl [S0 S1 S2 S3 S4 S5 S6 S7 S8 S9 S10 S11 S12 Hg Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 H0 H1 H2 H3 H4 H5 H6 H7 H8]
  · isplitl [S0 S1 S2 S3 S4 S5 S6 S7 S8 S9 S10 S11 S12]
    · iframe S0 S1 S2 S3 S4 S5 S6 S7 S8 S9 S10 S11 S12
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40]
    · iframe Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40
    isplitl [H0 H1 H2 H3 H4 H5]
    · iframe H0 H1 H2 H3 H4 H5
    isplitl [H6]; · iexists _; iexact H6
    isplitl [H7]; · iexists _; iexact H7
    iexists _; iexact H8
  isplitl [HW']
  · iexists W'; isplitr; · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty, defs₀_row]
  exact triple_restated (sound_body m c t) rfl .rfl fun _ => .rfl

/-! ## The run and the frame -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    by_contra hne
    exact StableHlo.devRef_ne_of_ne (fun e => hne (by rw [e]; decide)) hb

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl)

/-- The frame claim at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KernelIdealRun.lean ====
/-
  The run of the kernel's body at explicit contents: what its buffers and its three results hold afterwards.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's beside the transfers' counters. -/
local notation "𝕄" => MT nD τ sig Unit (Elt F) ℕ (Pipeline.UD sig nD τ) ℕ

/-! ## The operands -/

abbrev sM0 : Memref sig .tc .vmem S2x2880x128 .bf16 := Memref.whole cc0_scratch0
abbrev sM1 : Memref sig .tc .vmem S2880x8640 .fp8e4m3 := Memref.whole cc0_scratch1
abbrev sM2 : Memref sig .tc .vmem S8640 .f32 := Memref.whole cc0_scratch2
abbrev sM3 : Memref sig .tc .vmem S12x18 .bf16 := Memref.whole cc0_scratch3
abbrev sM4 : Memref sig .tc .vmem S40x240 .bf16 := Memref.whole cc0_scratch4
abbrev sM5 : Memref sig .tc .vmem S40x480 .bf16 := Memref.whole cc0_scratch5
abbrev sM6 : Memref sig .tc .vmem S2x2880x128 .fp8e4m3 := Memref.whole cc0_scratch6
abbrev sM7 : Memref sig .tc .vmem S2x128 .f32 := Memref.whole cc0_scratch7
abbrev sM8 : Memref sig .tc .vmem S2x8640x128 .bf16 := Memref.whole cc0_scratch8
abbrev sM9 : Memref sig .tc .vmem S256x2880 .fp8e4m3 := Memref.whole cc0_scratch9
abbrev sM10 : Memref sig .tc .vmem S12x480x256 .bf16 := Memref.whole cc0_scratch10
abbrev sM11 : Memref sig .tc .vmem S288x192 .bf16 := Memref.whole cc0_scratch11
abbrev sM12 : Memref sig .tc .vmem S18x480x256 .f32 := Memref.whole cc0_scratch12
abbrev hM0 : Memref sig .tc .hbm S2x2880x128 .bf16 := Memref.whole main_v0
abbrev hM1 : Memref sig .tc .hbm S2880x8640 .fp8e4m3 := Memref.whole main_v1
abbrev hM2 : Memref sig .tc .hbm S8640 .f32 := Memref.whole main_arg2
abbrev hM3 : Memref sig .tc .hbm S12x18 .bf16 := Memref.whole main_v2
abbrev hM4 : Memref sig .tc .hbm S40x240 .bf16 := Memref.whole main_arg4
abbrev hM5 : Memref sig .tc .hbm S40x480 .bf16 := Memref.whole main_v3
abbrev hM6 : Memref sig .tc .hbm S2x8640x128 .bf16 := Memref.whole main_v4_0
abbrev hM7 : Memref sig .tc .hbm S2x2880x128 .fp8e4m3 := Memref.whole main_v4_1
abbrev hM8 : Memref sig .tc .hbm S2x128 .f32 := Memref.whole main_v4_2

abbrev BufAt (c : Dev nD) {sp : Space} {S : Shape} {e : EltTy} (M : Memref sig .tc sp S e) : Type := Buf (Elt F) (M.view.loc (c : Thread nD τ))
abbrev ptAt (c : Dev nD) {sp : Space} {S : Shape} {e : EltTy} (M : Memref sig .tc sp S e) (f : BufAt (F := F) c M) : sProp 𝕄 :=
  M.view.loc (c : Thread nD τ) ↦{fullShare} f

set_option maxRecDepth 8192 in
set_option maxHeartbeats 4000000 in
set_option sl_exec.resultNames true in
noncomputable def kernelRun0 (c : Dev nD) (f0 : BufAt (F := F) c sM0) (f1 : BufAt (F := F) c sM1) (f2 : BufAt (F := F) c sM2) (f3 : BufAt (F := F) c sM3) (f4 : BufAt (F := F) c sM4) (f5 : BufAt (F := F) c sM5) (f6 : BufAt (F := F) c sM6) (f7 : BufAt (F := F) c sM7) (f8 : BufAt (F := F) c sM8) (f9 : BufAt (F := F) c sM9) (f10 : BufAt (F := F) c sM10) (f11 : BufAt (F := F) c sM11) (f12 : BufAt (F := F) c sM12)
    (h0 : BufAt (F := F) c hM0) (h1 : BufAt (F := F) c hM1) (h2 : BufAt (F := F) c hM2) (h3 : BufAt (F := F) c hM3) (h4 : BufAt (F := F) c hM4) (h5 : BufAt (F := F) c hM5) (h6 : BufAt (F := F) c hM6) (h7 : BufAt (F := F) c hM7) (h8 : BufAt (F := F) c hM8) :
    { G : BufAt (F := F) c hM6 × BufAt (F := F) c hM7 × BufAt (F := F) c hM8 //
      ∀ (W : Waits sig Unit) (K : PUnit → sProp 𝕄),
        iprop(ptAt c sM0 f0
            ∗ ptAt c sM1 f1
            ∗ ptAt c sM2 f2
            ∗ ptAt c sM3 f3
            ∗ ptAt c sM4 f4
            ∗ ptAt c sM5 f5
            ∗ ptAt c sM6 f6
            ∗ ptAt c sM7 f7
            ∗ ptAt c sM8 f8
            ∗ ptAt c sM9 f9
            ∗ ptAt c sM10 f10
            ∗ ptAt c sM11 f11
            ∗ ptAt c sM12 f12
            ∗ ptAt c hM0 h0
            ∗ ptAt c hM1 h1
            ∗ ptAt c hM2 h2
            ∗ ptAt c hM3 h3
            ∗ ptAt c hM4 h4
            ∗ ptAt c hM5 h5
            ∗ ptAt c hM6 h6
            ∗ ptAt c hM7 h7
            ∗ ptAt c hM8 h8
            ∗ semVal ((c : Thread nD τ), SemLoc.dma 0) 0
            ∗ semVal ((c : Thread nD τ), SemLoc.dma 1) 0
            ∗ semVal ((c : Thread nD τ), SemLoc.dma 2) 0
            ∗ semVal ((c : Thread nD τ), SemLoc.dma 3) 0
            ∗ semVal ((c : Thread nD τ), SemLoc.dma 4) 0
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ semVal ((c : Thread nD τ), SemLoc.dma 9) 0
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ semVal ((c : Thread nD τ), SemLoc.dma 16) 0
            ∗ semVal ((c : Thread nD τ), SemLoc.dma 17) 0
            ∗ semVal ((c : Thread nD τ), SemLoc.dma 18) 0
            ∗ semVal ((c : Thread nD τ), SemLoc.dma 19) 0
            ∗ semVal ((c : Thread nD τ), SemLoc.dma 20) 0
            ∗ semVal ((c : Thread nD τ), SemLoc.dma 21) 0
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ semVal ((c : Thread nD τ), SemLoc.dma 28) 0
            ∗ semVal ((c : Thread nD τ), SemLoc.dma 29) 0
            ∗ semVal ((c : Thread nD τ), SemLoc.dma 30) 0
            ∗ semVal ((c : Thread nD τ), SemLoc.dma 31) 0
            ∗ semVal ((c : Thread nD τ), SemLoc.dma 32) 0
            ∗ semVal ((c : Thread nD τ), SemLoc.dma 33) 0
            ∗ semVal ((c : Thread nD τ), SemLoc.dma 34) 0
            ∗ semVal ((c : Thread nD τ), SemLoc.dma 35) 0
            ∗ semVal ((c : Thread nD τ), SemLoc.dma 36) 0
            ∗ semVal ((c : Thread nD τ), SemLoc.dma 37) 0
            ∗ semVal ((c : Thread nD τ), SemLoc.dma 38) 0
            ∗ semVal ((c : Thread nD τ), SemLoc.dma 39) 0
            ∗ semVal ((c : Thread nD τ), SemLoc.dma 40) 0
            ∗ owes (c : Thread nD τ) 0 W
            ∗ (iprop((∃ d, ptAt c sM0 d)
                ∗ (∃ d, ptAt c sM1 d)
                ∗ (∃ d, ptAt c sM2 d)
                ∗ (∃ d, ptAt c sM3 d)
                ∗ (∃ d, ptAt c sM4 d)
                ∗ (∃ d, ptAt c sM5 d)
                ∗ (∃ d, ptAt c sM6 d)
                ∗ (∃ d, ptAt c sM7 d)
                ∗ (∃ d, ptAt c sM8 d)
                ∗ (∃ d, ptAt c sM9 d)
                ∗ (∃ d, ptAt c sM10 d)
                ∗ (∃ d, ptAt c sM11 d)
                ∗ (∃ d, ptAt c sM12 d)
                ∗ ptAt c hM0 h0
                ∗ ptAt c hM1 h1
                ∗ ptAt c hM2 h2
                ∗ ptAt c hM3 h3
                ∗ ptAt c hM4 h4
                ∗ ptAt c hM5 h5
                ∗ ptAt c hM6 G.1
                ∗ ptAt c hM7 G.2.1
                ∗ ptAt c hM8 G.2.2
                ∗ semVal ((c : Thread nD τ), SemLoc.dma 0) 0
                ∗ semVal ((c : Thread nD τ), SemLoc.dma 1) 0
                ∗ semVal ((c : Thread nD τ), SemLoc.dma 2) 0
                ∗ semVal ((c : Thread nD τ), SemLoc.dma 3) 0
                ∗ semVal ((c : Thread nD τ), SemLoc.dma 4) 0
                ∗ semVal ((c : Thread nD τ), SemLoc.dma 5) 0
                ∗ semVal ((c : Thread nD τ), SemLoc.dma 6) 0
                ∗ semVal ((c : Thread nD τ), SemLoc.dma 7) 0
                ∗ semVal ((c : Thread nD τ), SemLoc.dma 8) 0
                ∗ semVal ((c : Thread nD τ), SemLoc.dma 9) 0
                ∗ semVal ((c : Thread nD τ), SemLoc.dma 10) 0
                ∗ semVal ((c : Thread nD τ), SemLoc.dma 11) 0
                ∗ semVal ((c : Thread nD τ), SemLoc.dma 12) 0
                ∗ semVal ((c : Thread nD τ), SemLoc.dma 13) 0
                ∗ semVal ((c : Thread nD τ), SemLoc.dma 14) 0
                ∗ semVal ((c : Thread nD τ), SemLoc.dma 15) 0
                ∗ semVal ((c : Thread nD τ), SemLoc.dma 16) 0
                ∗ semVal ((c : Thread nD τ), SemLoc.dma 17) 0
                ∗ semVal ((c : Thread nD τ), SemLoc.dma 18) 0
                ∗ semVal ((c : Thread nD τ), SemLoc.dma 19) 0
                ∗ semVal ((c : Thread nD τ), SemLoc.dma 20) 0
                ∗ semVal ((c : Thread nD τ), SemLoc.dma 21) 0
                ∗ semVal ((c : Thread nD τ), SemLoc.dma 22) 0
                ∗ semVal ((c : Thread nD τ), SemLoc.dma 23) 0
                ∗ semVal ((c : Thread nD τ), SemLoc.dma 24) 0
                ∗ semVal ((c : Thread nD τ), SemLoc.dma 25) 0
                ∗ semVal ((c : Thread nD τ), SemLoc.dma 26) 0
                ∗ semVal ((c : Thread nD τ), SemLoc.dma 27) 0
                ∗ semVal ((c : Thread nD τ), SemLoc.dma 28) 0
                ∗ semVal ((c : Thread nD τ), SemLoc.dma 29) 0
                ∗ semVal ((c : Thread nD τ), SemLoc.dma 30) 0
                ∗ semVal ((c : Thread nD τ), SemLoc.dma 31) 0
                ∗ semVal ((c : Thread nD τ), SemLoc.dma 32) 0
                ∗ semVal ((c : Thread nD τ), SemLoc.dma 33) 0
                ∗ semVal ((c : Thread nD τ), SemLoc.dma 34) 0
                ∗ semVal ((c : Thread nD τ), SemLoc.dma 35) 0
                ∗ semVal ((c : Thread nD τ), SemLoc.dma 36) 0
                ∗ semVal ((c : Thread nD τ), SemLoc.dma 37) 0
                ∗ semVal ((c : Thread nD τ), SemLoc.dma 38) 0
                ∗ semVal ((c : Thread nD τ), SemLoc.dma 39) 0
                ∗ semVal ((c : Thread nD τ), SemLoc.dma 40) 0
                ∗ (∃ W', owes (c : Thread nD τ) 0 W')) -∗ K ⟨⟩))
          ⊢ wp frame (wpE (defs₀ (F := F)) Variants.none c none) Set.univ
              (cc0_fp8_lokr hM0 (Memref.isWhole_whole _) hM1 (Memref.isWhole_whole _) hM2 (Memref.isWhole_whole _) hM3 (Memref.isWhole_whole _) hM4 (Memref.isWhole_whole _) hM5 (Memref.isWhole_whole _) hM6 (Memref.isWhole_whole _) hM7 (Memref.isWhole_whole _) hM8 (Memref.isWhole_whole _) sM0 (Memref.isWhole_whole _) sM1 (Memref.isWhole_whole _) sM2 (Memref.isWhole_whole _) sM3 (Memref.isWhole_whole _) sM4 (Memref.isWhole_whole _) sM5 (Memref.isWhole_whole _) sM6 (Memref.isWhole_whole _) sM7 (Memref.isWhole_whole _) sM8 (Memref.isWhole_whole _) sM9 (Memref.isWhole_whole _) sM10 (Memref.isWhole_whole _) sM11 (Memref.isWhole_whole _) sM12 (Memref.isWhole_whole _) cc0_scratch13 cc0_scratch14 cc0_scratch15 cc0_scratch16 cc0_scratch17) K } := by
  refine ⟨⟨?_, ?_, ?_⟩, fun W K => ?run⟩
  case run =>
    simp only [cc0_fp8_lokr_eq_skeleton]; unfold cc0_fp8_lokr_skel
    iintro ⟨S0, S1, S2, S3, S4, S5, S6, S7, S8, S9, S10, S11, S12, H0, H1, H2, H3, H4, H5, H6, H7, H8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, HW, Hk⟩
    set_option sl_exec.rejoinFuel 200 in set_option sl_exec.rejoinHeartbeats 200000 in set_option sl_exec.dmaWindow true in sl_exec_parts
    sl_step
    iapply Hk

    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    isplitl [S11]; · iexists _; iexact S11
    isplitl [S12]; · iexists _; iexact S12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    iexists _; iexact HW

end Cert.KernelIdeal.Hand

end
-- ==== Proof.KernelIdealFrame.lean ====
/-
  The frame of the program: its body's run as the region's body obligation, the launch, and the six arguments unchanged.
-/
module

public import proofs.«01_k».proof.Proof.Gen.KernelIdeal.Frame
public import proofs.«01_k».proof.Proof.KernelIdealRun
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's own transfer cells. -/
abbrev osem0 : Fin 41 → SemLoc sig := fun j => SemLoc.dma (⟨j.val, j.isLt⟩ : Fin 41)
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body's transfers read. -/
def H0 : Finset (Ref sig .tc) := {main_v0, main_v1, main_arg2, main_v2, main_arg4, main_v3}
theorem H0_sub : H0 ⊆ Pipeline.restRefs sig (cfg0.spec) := by decide
/-- The results the body's transfers write. -/
def R0 : Finset (Ref sig .tc) := {main_v4_0, main_v4_1, main_v4_2}
theorem R0_sub : R0 ⊆ Pipeline.restRefs sig (cfg0.spec) \ H0 := by decide
/-- What the lines after the region write. -/
def T0 : Finset (Ref sig .tc) := {main_v5, main_v6}

theorem hbmPts0_eq (c : Dev nD) :
    (bigSep H0 (fun b => ((c : Thread nD τ).loc b) ↦{fullShare} V m c b) : sProp 𝕄)
      = iprop(ptAt c hM0 (V m c main_v0) ∗ ptAt c hM1 (V m c main_v1) ∗ ptAt c hM2 (V m c main_arg2) ∗ ptAt c hM3 (V m c main_v2) ∗ ptAt c hM4 (V m c main_arg4) ∗ ptAt c hM5 (V m c main_v3)) := by
  rw [BI.bigSep_eq_bigSepL_of_eq [main_v0, main_v1, main_arg2, main_v2, main_arg4, main_v3] (by decide) (by decide)]; rfl
theorem resPts0_eq (c : Dev nD) (U : (b : Ref sig .tc) → Buf (Elt F) ((c : Thread nD τ).loc b)) :
    (bigSep R0 (fun b => ((c : Thread nD τ).loc b) ↦{fullShare} U b) : sProp 𝕄)
      = iprop(ptAt c hM6 (U main_v4_0) ∗ ptAt c hM7 (U main_v4_1) ∗ ptAt c hM8 (U main_v4_2)) := by
  rw [BI.bigSep_eq_bigSepL_of_eq [main_v4_0, main_v4_1, main_v4_2] (by decide) (by decide)]; rfl
theorem ownedPts0_eq (c : Dev nD) :
    (Pipeline.owned R0 c : sProp 𝕄)
      = iprop((∃ f, ptAt c hM6 f) ∗ (∃ f, ptAt c hM7 f) ∗ (∃ f, ptAt c hM8 f)) := by
  unfold Pipeline.owned; rw [BI.bigSep_eq_bigSepL_of_eq [main_v4_0, main_v4_1, main_v4_2] (by decide) (by decide)]; rfl

theorem PhiDR0_eq (c : Dev nD) :
    (Pipeline.ΦDR osem0 (cfg0.spec) H0 R0 (V m) c : sProp 𝕄)
      = iprop(iprop((∃ f, ptAt c sM0 f) ∗ (∃ f, ptAt c sM1 f) ∗ (∃ f, ptAt c sM2 f) ∗ (∃ f, ptAt c sM3 f) ∗ (∃ f, ptAt c sM4 f) ∗ (∃ f, ptAt c sM5 f) ∗ (∃ f, ptAt c sM6 f) ∗ (∃ f, ptAt c sM7 f) ∗ (∃ f, ptAt c sM8 f) ∗ (∃ f, ptAt c sM9 f) ∗ (∃ f, ptAt c sM10 f) ∗ (∃ f, ptAt c sM11 f) ∗ (∃ f, ptAt c sM12 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
          ∗ iprop(ptAt c hM0 (V m c main_v0) ∗ ptAt c hM1 (V m c main_v1) ∗ ptAt c hM2 (V m c main_arg2) ∗ ptAt c hM3 (V m c main_v2) ∗ ptAt c hM4 (V m c main_arg4) ∗ ptAt c hM5 (V m c main_v3))
          ∗ iprop((∃ f, ptAt c hM6 f) ∗ (∃ f, ptAt c hM7 f) ∗ (∃ f, ptAt c hM8 f))) := by
  rw [Pipeline.ΦDR_eq, scopedRest0_eq, ownSems00_eq, hbmPts0_eq, ownedPts0_eq]; try rfl

/-! ## The proof data and the body obligation -/

def dats (_ : Fin 1) (c : Dev nD) : Dat τ (Elt F) Unit ℕ (Pipeline.UD sig nD τ) ℕ cfg0 c where
  A w := w.elim0
  after w t := w.elim0
  Φ _ := Pipeline.ΦDR osem0 (cfg0.spec) H0 R0 (V m) c
  q _ := fullShare
  owed _ := 0

def bodyPre (c : Dev nD) (t : Fin cfg0.N) : sProp 𝕄 :=
  iprop((dats m 0 c).Φ t.castSucc ∗ (dats m 0 c).owesAt () t.castSucc ∗ BI.emp)
def bodyPost (c : Dev nD) (t : Fin cfg0.N) : sProp 𝕄 :=
  iprop((dats m 0 c).Φ t.succ ∗ (dats m 0 c).owesAt () t.succ ∗ BI.emp)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40⟩, ⟨H0, H1, H2, H3, H4, H5⟩, ⟨⟨%h6, H6⟩, ⟨%h7, H7⟩, ⟨%h8, H8⟩⟩⟩, ⟨%W, -, HW⟩, He⟩
  iapply ((kernelRun0 c f0 f1 f2 f3 f4 f5 f6 f7 f8 f9 f10 f11 f12 (V m c main_v0) (V m c main_v1) (V m c main_arg2) (V m c main_v2) (V m c main_arg4) (V m c main_v3) h6 h7 h8).2 W _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [HW]; · iexact HW
  iintro ⟨S0, S1, S2, S3, S4, S5, S6, S7, S8, S9, S10, S11, S12, H0, H1, H2, H3, H4, H5, H6, H7, H8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, ⟨%W', HW'⟩⟩
  isplitl [S0 S1 S2 S3 S4 S5 S6 S7 S8 S9 S10 S11 S12 Hg Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 H0 H1 H2 H3 H4 H5 H6 H7 H8]
  · isplitl [S0 S1 S2 S3 S4 S5 S6 S7 S8 S9 S10 S11 S12]
    · iframe S0 S1 S2 S3 S4 S5 S6 S7 S8 S9 S10 S11 S12
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40]
    · iframe Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40
    isplitl [H0 H1 H2 H3 H4 H5]
    · iframe H0 H1 H2 H3 H4 H5
    isplitl [H6]; · iexists _; iexact H6
    isplitl [H7]; · iexists _; iexact H7
    iexists _; iexact H8
  isplitl [HW']
  · iexists W'; isplitr; · ipureintro; exact fun _ _ => Or.inl trivial
    iexact HW'
  iexact He

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty, defs₀_row]
  exact triple_restated (sound_body m c t) rfl .rfl fun _ => .rfl

/-! ## The run and the frame -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    by_contra hne
    exact StableHlo.devRef_ne_of_ne (fun e => hne (by rw [e]; decide)) hb

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl)

/-- The frame claim at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Quant.lean ====
/-
  The quantiser's scale at the extended reals: the kernel's search for the exponent word and the reference's largest
  power of two of a table find the same exponent, and both scales are that power of two.
-/
module

public import Idealize.ShloMosaic.Lib.Pointwise

@[expose] public section

noncomputable section

namespace Cert.Math

open Idealize.ShloMosaic

/-- The number whose binary32 word is the exponent field `b` over an empty fraction. -/
def word (b : BitVec 32) : EReal := Ideal.ofBits .f32 (b <<< 23)

/-- One step of the kernel's search: `s` is added to the exponent if the number is still at least the new power. -/
def step (a : EReal) (s ex : BitVec 32) : BitVec 32 := if word (ex + s) ≤ a then ex + s else ex

/-- The kernel's search for the exponent field of `a`. -/
def expo (a : EReal) : BitVec 32 :=
  step a 1 (step a 2 (step a 4 (step a 8 (step a 16 (step a 32 (step a 64 (step a 128 0)))))))

/-- The kernel's exponent of the scale. -/
def lift (a : EReal) : BitVec 32 := if expo a = 0 ∨ expo a = 255 then 0 else expo a - 126

/-- The kernel's scale of a row whose largest magnitude over 448 is `a`. -/
def scale (a : EReal) : EReal := word (lift a + 127)

/-- The kernel's reciprocal of that scale. -/
def inv (a : EReal) : EReal := word (127 - lift a)

theorem fields : ∀ n : Fin 256, ((BitVec.ofNat 32 n <<< 23).extractLsb' 31 1 == 1#1) = false
    ∧ ((BitVec.ofNat 32 n <<< 23).extractLsb' 23 8).toNat = n
    ∧ ((BitVec.ofNat 32 n <<< 23).extractLsb' 0 23).toNat = 0 := by decide +kernel

theorem word_zero : word 0 = 0 := by
  simp [word, Ideal.ofBits, Ideal.ieee]

theorem word_last (n : ℕ) (h : n = 255) : word (BitVec.ofNat 32 n) = ⊤ := by
  obtain ⟨hs, he, hf⟩ := fields ⟨n, by omega⟩
  simp only [word, Ideal.ofBits, Ideal.ieee]
  simp only at hs he hf
  rw [hs, he, hf, if_pos (by subst h; rfl), if_pos rfl, if_neg Bool.false_ne_true]

theorem word_top : word 255 = ⊤ := word_last 255 rfl

theorem significand (z : ℤ) : (1 : ℝ) * ((2 ^ 23 + 0 : ℕ) : ℝ) * (2 : ℝ) ^ (z - 23) = (2 : ℝ) ^ z := by
  rw [zpow_sub₀ (by norm_num)]
  norm_num
  ring

theorem word_mid (n : ℕ) (h1 : 1 ≤ n) (h2 : n ≤ 254) : word (BitVec.ofNat 32 n) = (((2 : ℝ) ^ ((n : ℤ) - 127) : ℝ) : EReal) := by
  obtain ⟨hs, he, hf⟩ := fields ⟨n, by omega⟩
  have n1 : ¬ n = 2 ^ 8 - 1 := by omega
  have n0 : ¬ n = 0 := by omega
  rw [← significand ((n : ℤ) - 127)]
  simp only [word, Ideal.ofBits, Ideal.ieee]
  simp only at hs he hf
  rw [hs, he, hf, if_neg n1, if_neg n0, if_neg Bool.false_ne_true]
  rfl

/-- `a` lies in binade `k`: the powers of two at most `a` are those of the fields up to `k`. -/
def Level (a : EReal) (k : ℕ) : Prop := ∀ j : ℕ, j ≤ 255 → (word (BitVec.ofNat 32 j) ≤ a ↔ j ≤ k)

theorem level_zero (r : ℝ) (h0 : 0 ≤ r) (h1 : r < (2 : ℝ) ^ (-126 : ℤ)) : Level (r : EReal) 0 := by
  intro j hj
  rcases Nat.eq_zero_or_pos j with rfl | hp
  · simp only [le_refl, iff_true]
    rw [show BitVec.ofNat 32 0 = 0 from rfl, word_zero]; exact_mod_cast h0
  · refine ⟨fun h => ?_, fun h => absurd h (by omega)⟩
    exfalso
    rcases Nat.lt_or_ge j 255 with hj' | hj'
    · rw [word_mid j hp (by omega), EReal.coe_le_coe_iff] at h
      have : (2 : ℝ) ^ (-126 : ℤ) ≤ (2 : ℝ) ^ ((j : ℤ) - 127) := zpow_le_zpow_right₀ (by norm_num) (by omega)
      linarith
    · obtain rfl : j = 255 := by omega
      rw [show BitVec.ofNat 32 255 = 255 from rfl, word_top, top_le_iff] at h
      exact EReal.coe_ne_top _ h

theorem level_pos (r : ℝ) (k : ℕ) (hk1 : 1 ≤ k) (hk2 : k ≤ 253) (h0 : (2 : ℝ) ^ ((k : ℤ) - 127) ≤ r)
    (h1 : r < (2 : ℝ) ^ ((k : ℤ) - 126)) : Level (r : EReal) k := by
  have hr : 0 ≤ r := le_trans (by positivity) h0
  intro j hj
  rcases Nat.eq_zero_or_pos j with rfl | hp
  · simp only [Nat.zero_le, iff_true]
    rw [show BitVec.ofNat 32 0 = 0 from rfl, word_zero]; exact_mod_cast hr
  · rcases Nat.lt_or_ge j 255 with hj' | hj'
    · rw [word_mid j hp (by omega), EReal.coe_le_coe_iff]
      constructor
      · intro h
        by_contra hc
        have : (2 : ℝ) ^ ((k : ℤ) - 126) ≤ (2 : ℝ) ^ ((j : ℤ) - 127) := zpow_le_zpow_right₀ (by norm_num) (by omega)
        linarith
      · intro h
        exact le_trans (zpow_le_zpow_right₀ (by norm_num) (by omega)) h0
    · obtain rfl : j = 255 := by omega
      rw [show BitVec.ofNat 32 255 = 255 from rfl, word_top, top_le_iff]
      exact ⟨fun h => absurd h (EReal.coe_ne_top _), fun h => by omega⟩

/-- One step of the search halves the range that the answer is known to lie in. -/
theorem step_level {a : EReal} {k : ℕ} (h : Level a k) (n s : ℕ) (hn : n ≤ k) (hk : k < n + 2 * s) (hb : n + 2 * s ≤ 256)
    (hs : 0 < s) : ∃ n', step a (BitVec.ofNat 32 s) (BitVec.ofNat 32 n) = BitVec.ofNat 32 n' ∧ n' ≤ k ∧ k < n' + s ∧ n' + s ≤ 256 := by
  unfold step
  rw [← BitVec.ofNat_add]
  by_cases hc : n + s ≤ k
  · exact ⟨n + s, by rw [if_pos ((h (n + s) (by omega)).2 hc)], by omega, by omega, by omega⟩
  · exact ⟨n, by rw [if_neg fun h' => hc ((h (n + s) (by omega)).1 h')], by omega, by omega, by omega⟩

/-- The search finds the binade. -/
theorem expo_level {a : EReal} {k : ℕ} (h : Level a k) (hk : k ≤ 255) : expo a = BitVec.ofNat 32 k := by
  obtain ⟨n1, e1, l1, u1, b1⟩ := step_level h 0 128 (by omega) (by omega) (by omega) (by omega)
  obtain ⟨n2, e2, l2, u2, b2⟩ := step_level h n1 64 l1 (by omega) (by omega) (by omega)
  obtain ⟨n3, e3, l3, u3, b3⟩ := step_level h n2 32 l2 (by omega) (by omega) (by omega)
  obtain ⟨n4, e4, l4, u4, b4⟩ := step_level h n3 16 l3 (by omega) (by omega) (by omega)
  obtain ⟨n5, e5, l5, u5, b5⟩ := step_level h n4 8 l4 (by omega) (by omega) (by omega)
  obtain ⟨n6, e6, l6, u6, b6⟩ := step_level h n5 4 l5 (by omega) (by omega) (by omega)
  obtain ⟨n7, e7, l7, u7, b7⟩ := step_level h n6 2 l6 (by omega) (by omega) (by omega)
  obtain ⟨n8, e8, l8, u8, b8⟩ := step_level h n7 1 l7 (by omega) (by omega) (by omega)
  have : n8 = k := by omega
  subst this
  unfold expo
  have z : (0 : BitVec 32) = BitVec.ofNat 32 0 := rfl
  rw [z]
  exact (by rw [← e8, ← e7, ← e6, ← e5, ← e4, ← e3, ← e2, ← e1]; rfl)

/-- A nonnegative number below `2 ^ 121` is real and lies in a binade of field at most 247. -/
theorem level_exists (a : EReal) (h0 : 0 ≤ a) (h1 : a < (((2 : ℝ) ^ (121 : ℤ) : ℝ) : EReal)) :
    (∃ r : ℝ, a = r ∧ 0 ≤ r ∧ r < (2 : ℝ) ^ (-126 : ℤ) ∧ Level a 0)
      ∨ ∃ k : ℕ, ∃ r : ℝ, a = r ∧ 1 ≤ k ∧ k ≤ 247 ∧ Level a k ∧ (2 : ℝ) ^ (-126 : ℤ) ≤ r := by
  induction a using EReal.rec with
  | bot => simp at h0
  | top => exact absurd h1 (by simp)
  | coe r =>
    rw [EReal.coe_lt_coe_iff] at h1
    have h0' : 0 ≤ r := by exact_mod_cast h0
    by_cases hr : r < (2 : ℝ) ^ (-126 : ℤ)
    · exact .inl ⟨r, rfl, h0', hr, level_zero r h0' hr⟩
    · rw [not_lt] at hr
      have hp : 0 < r := lt_of_lt_of_le (by positivity) hr
      obtain ⟨z, hlo, hhi⟩ := exists_mem_Ico_zpow hp (y := (2 : ℝ)) (by norm_num)
      have l1 : -126 < z + 1 := (zpow_lt_zpow_iff_right₀ (a := (2 : ℝ)) (by norm_num)).1 (lt_of_le_of_lt hr hhi)
      have l2 : z < 121 := (zpow_lt_zpow_iff_right₀ (a := (2 : ℝ)) (by norm_num)).1 (lt_of_le_of_lt hlo h1)
      refine .inr ⟨(z + 127).toNat, r, rfl, by omega, by omega, level_pos r _ (by omega) (by omega) ?_ ?_, hr⟩
      · rw [Int.toNat_of_nonneg (by omega)]; simpa using hlo
      · rw [Int.toNat_of_nonneg (by omega), show z + 127 - 126 = z + 1 by ring]; exact hhi

/-- The reference's largest power of the table: the exponents that are not taken count as -127. -/
def top (a : EReal) : EReal :=
  Finset.univ.fold max ⊥ fun i : Fin 254 =>
    if Ideal.exp2 (((((i : ℕ) : ℝ) - 126 : ℝ)) : EReal) ≤ a then ((((i : ℕ) : ℝ) - 126 : ℝ) : EReal) else ((-127 : ℝ) : EReal)

/-- The reference's exponent. -/
def refExp (a : EReal) : EReal := if a < (((2 : ℝ) ^ (-126 : ℤ) : ℝ) : EReal) then 0 else top a + ((1 : ℝ) : EReal)

theorem exp2_int (z : ℤ) : Ideal.exp2 (((z : ℝ)) : EReal) = (((2 : ℝ) ^ z : ℝ) : EReal) := by
  rw [Ideal.exp2_coe]
  congr 1
  exact Real.rpow_intCast 2 z

theorem top_level (a : EReal) (k : ℕ) (h : Level a k) (h1 : 1 ≤ k) (h2 : k ≤ 247) :
    top a = (((k : ℝ) - 127 : ℝ) : EReal) := by
  have hi : ∀ i : Fin 254, (Ideal.exp2 (((((i : ℕ) : ℝ) - 126 : ℝ)) : EReal) ≤ a ↔ (i : ℕ) + 1 ≤ k) := fun i => by
    rw [← h (i + 1) (by omega), word_mid (i + 1) (by omega) (by omega)]
    have := exp2_int ((i : ℤ) - 126)
    push_cast at this ⊢
    rw [this, show ((i : ℕ) : ℤ) + 1 - 127 = (i : ℤ) - 126 by ring]
  unfold top
  apply le_antisymm
  · rw [Finset.fold_max_le]
    refine ⟨bot_le, fun i _ => ?_⟩
    split_ifs with hc
    · have := (hi i).1 hc
      rw [EReal.coe_le_coe_iff]
      have : ((i : ℕ) : ℝ) + 1 ≤ k := by exact_mod_cast this
      linarith
    · rw [EReal.coe_le_coe_iff]
      have : (0 : ℝ) ≤ k := by positivity
      linarith
  · rw [Finset.le_fold_max]
    refine .inr ⟨⟨k - 1, by omega⟩, Finset.mem_univ _, ?_⟩
    rw [if_pos ((hi _).2 (by simp; omega)), EReal.coe_le_coe_iff]
    simp only
    rw [Nat.cast_sub h1]
    push_cast
    linarith

theorem bv_lift : ∀ k : Fin 248, 1 ≤ k.val →
    (if BitVec.ofNat 32 k = 0 ∨ BitVec.ofNat 32 k = 255 then (0 : BitVec 32) else BitVec.ofNat 32 k - 126) + 127 = BitVec.ofNat 32 (k + 1)
    ∧ 127 - (if BitVec.ofNat 32 k = 0 ∨ BitVec.ofNat 32 k = 255 then (0 : BitVec 32) else BitVec.ofNat 32 k - 126) = BitVec.ofNat 32 (253 - k) := by
  decide +kernel

/-- THE SCALE: the reference's and the kernel's are one number, and so are the reciprocals. -/
theorem scale_eq (a : EReal) (h0 : 0 ≤ a) (h1 : a < (((2 : ℝ) ^ (121 : ℤ) : ℝ) : EReal)) :
    Ideal.exp2 (refExp a) = scale a ∧ Ideal.exp2 (0 - refExp a) = inv a := by
  rcases level_exists a h0 h1 with ⟨r, rfl, hr0, hr1, hl⟩ | ⟨k, r, rfl, hk1, hk2, hl, hr⟩
  · have he := expo_level hl (by omega)
    have hl : lift r = 0 := by unfold lift; rw [he, if_pos (.inl rfl)]
    have h127 : word 127 = 1 := by
      rw [show (127 : BitVec 32) = BitVec.ofNat 32 127 from rfl, word_mid 127 (by omega) (by omega)]; norm_num
    unfold refExp scale inv
    rw [hl, if_pos (by exact_mod_cast hr1)]
    rw [show (0 : BitVec 32) + 127 = 127 from rfl, show (127 : BitVec 32) - 0 = 127 from rfl, h127, sub_zero]
    have := exp2_int 0
    simp at this
    exact ⟨this, this⟩
  · have he := expo_level hl (by omega)
    obtain ⟨e1, e2⟩ := bv_lift ⟨k, by omega⟩ hk1
    unfold refExp scale inv lift
    rw [he, if_neg (by rw [not_lt]; exact_mod_cast hr)]
    simp only at e1 e2
    rw [e1, e2, top_level _ k hl hk1 hk2, word_mid (k + 1) (by omega) (by omega), word_mid (253 - k) (by omega) (by omega)]
    have s1 := exp2_int ((k : ℤ) - 126)
    have s2 := exp2_int (126 - (k : ℤ))
    rw [← EReal.coe_add, ← EReal.coe_zero, ← EReal.coe_sub]
    constructor
    · rw [show (k : ℝ) - 127 + 1 = (((k : ℤ) - 126 : ℤ) : ℝ) by push_cast; ring, s1]
      congr 2
      push_cast; omega
    · rw [show 0 - ((k : ℝ) - 127 + 1) = ((126 - (k : ℤ) : ℤ) : ℝ) by push_cast; ring, s2]
      congr 2
      push_cast [Nat.cast_sub (show k ≤ 253 by omega)]
      omega

end Cert.Math

end

end
-- ==== Proof.ValueBase.lean ====
/-
  What the value proof reads with: a tensor at natural-number coordinates, a load from a buffer that a copy filled, a load
  from a buffer whose stores are all blocks of one tensor; and the numbers the kernel computes, in mathematical notation.
-/
module

public import proofs.«01_k».proof.Proof.KernelIdealRun
public import proofs.«01_k».proof.Proof.Quant
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Math

open Idealize.ShloMosaic Idealize.SL.Sem

/-! ## Tensors at natural-number coordinates -/

/-- A vector at a coordinate, zero outside. -/
def at1 {n : ℕ} (v : (⟨1, ![n]⟩ : Shape).Idx → EReal) (i : ℕ) : EReal := if h : i < n then v (ix1 ⟨i, h⟩) else 0

/-- A matrix at its coordinates, zero outside. -/
def at2 {m n : ℕ} (v : (⟨2, ![m, n]⟩ : Shape).Idx → EReal) (i j : ℕ) : EReal :=
  if h : i < m ∧ j < n then v (ix2 ⟨i, h.1⟩ ⟨j, h.2⟩) else 0

/-- A tensor of rank 3 at its coordinates, zero outside. -/
def at3 {l m n : ℕ} (v : (⟨3, ![l, m, n]⟩ : Shape).Idx → EReal) (i j k : ℕ) : EReal :=
  if h : i < l ∧ j < m ∧ k < n then v (ix3 ⟨i, h.1⟩ ⟨j, h.2.1⟩ ⟨k, h.2.2⟩) else 0

theorem at1_ix {n : ℕ} (v : (⟨1, ![n]⟩ : Shape).Idx → EReal) (i : Fin n) : v (ix1 i) = at1 v i := by
  rw [at1, dif_pos i.isLt]

theorem at2_ix {m n : ℕ} (v : (⟨2, ![m, n]⟩ : Shape).Idx → EReal) (i : Fin m) (j : Fin n) : v (ix2 i j) = at2 v i j := by
  rw [at2, dif_pos ⟨i.isLt, j.isLt⟩]

theorem at3_ix {l m n : ℕ} (v : (⟨3, ![l, m, n]⟩ : Shape).Idx → EReal) (i : Fin l) (j : Fin m) (k : Fin n) :
    v (ix3 i j k) = at3 v i j k := by
  rw [at3, dif_pos ⟨i.isLt, j.isLt, k.isLt⟩]

/-- The same at any index. -/
theorem at1_idx {n : ℕ} (v : (⟨1, ![n]⟩ : Shape).Idx → EReal) (i : (⟨1, ![n]⟩ : Shape).Idx) : v i = at1 v (i 0).val := by
  rw [eq_ix1 i]; exact at1_ix v _

theorem at2_idx {m n : ℕ} (v : (⟨2, ![m, n]⟩ : Shape).Idx → EReal) (i : (⟨2, ![m, n]⟩ : Shape).Idx) :
    v i = at2 v (i 0).val (i 1).val := by
  rw [eq_ix2 i]; exact at2_ix v _ _

theorem at3_idx {l m n : ℕ} (v : (⟨3, ![l, m, n]⟩ : Shape).Idx → EReal) (i : (⟨3, ![l, m, n]⟩ : Shape).Idx) :
    v i = at3 v (i 0).val (i 1).val (i 2).val := by
  rw [eq_ix3 i]; exact at3_ix v _ _ _

/-! ## The numbers

`X b d s` is entry `d` of token `s` of batch `b`, `W d n` the weight's code, `ws n` its scale, `C p a` the small factor,
`Dn r d` and `Up r o` the two low-rank factors. -/

variable (X : ℕ → ℕ → ℕ → EReal) (W : ℕ → ℕ → EReal) (ws : ℕ → EReal) (C Dn Up : ℕ → ℕ → EReal)

/-- The largest magnitude of a token's entries, over 448. -/
def level (b s : ℕ) : EReal :=
  Finset.univ.fold max (Ideal.ofBits .bf16 65408#16) (fun d : Fin 2880 => FloatOps.absf (F := Ideal) (φ := .bf16) (X b d s))
    * Ideal.ofBits .f32 991054117#32

/-- The token's scale. -/
def xs (b s : ℕ) : EReal := scale (level X b s)

/-- The code of one entry. -/
def code (b d s : ℕ) : EReal :=
  min (Ideal.ofBits .f32 1138753536#32) (max (Ideal.ofBits .f32 3286237184#32) (X b d s * inv (level X b s)))

/-- The product of the codes, each row scaled by the weight's scale. -/
def acc (r n : ℕ) : EReal := (∑ d : Fin 2880, code X (r / 128) d (r % 128) * W d n) * ws n

/-- The token `r` of the flat order, entry `d`. -/
def tok (d r : ℕ) : EReal := X (r / 128) d (r % 128)

/-- The low-rank product of one block of 240 entries: first down, -/
def down (p i r : ℕ) : EReal := ∑ d : Fin 240, Dn i d * tok X (240 * p + d) r

/-- then up. -/
def up (p o r : ℕ) : EReal := ∑ i : Fin 40, Up o i * down X Dn p i r

/-- The adapter's term: the small factor applied across the blocks, times its scale 0.4. -/
def lokr (a o r : ℕ) : EReal := (∑ p : Fin 12, C p a * up X Dn Up p o r) * Ideal.ofBits .f32 0x3ECCCCCD#32

/-- One entry of the result. -/
def out (b n s : ℕ) : EReal :=
  acc X W ws (128 * b + s) n * xs X b s + lokr X C Dn Up (n / 480) (n % 480) (128 * b + s)

/-! ## Loads -/

section Loads

variable {sig : RefSig} {κ : Kind} {sp : Space} {s : Shape} {e : EltTy}

/-- A load from a buffer that a copy filled reads the copied contents. -/
theorem load_filled {Val : EltTy → Type} (v : View sig κ sp s e) (f : v.ty.Contents Val) (w : s.Idx → Val e) (B : LoadRect s) :
    View.readAt Val v B (View.write Val v f w Finset.univ) = fun j => w (B.idx j) := by
  funext j
  rw [View.readAt_apply, View.read_write_univ]

/-- A load from a buffer whose stores are all blocks of one tensor, the stores covering the buffer, reads that tensor. -/
theorem load_stored {Val : EltTy → Type} [∀ e, Nonempty (Val e)] (v : View sig κ sp s e) (L : List (View.Piece Val s e))
    (G : s.Idx → Val e) (h : View.PiecesOf G L) (hc : ∀ y, ∃ p ∈ L, y ∈ p.1.set) (B : LoadRect s) :
    v.readCov L B = fun j => G (B.idx j) := by
  funext j
  rw [View.readCov, View.readAt_apply]
  exact View.read_writes_apply_of_pieces v v.junk G L h.mem _ (hc _)

/-- The same for the whole buffer. -/
theorem read_stored {Val : EltTy → Type} (v : View sig κ sp s e) (f : v.ty.Contents Val) (L : List (View.Piece Val s e))
    (G : s.Idx → Val e) (h : View.PiecesOf G L) (hc : ∀ y, ∃ p ∈ L, y ∈ p.1.set) : View.read Val v (v.writes Val f L) = G := by
  funext j
  exact View.read_writes_apply_of_pieces v f G L h.mem _ (hc _)

end Loads

/-! ## Tensors given by a function of their coordinates -/

/-- The matrix with a given entry at each pair of coordinates. -/
def of2 {m n : ℕ} (G : ℕ → ℕ → EReal) : (⟨2, ![m, n]⟩ : Shape).Idx → EReal := fun i => G (i 0).val (i 1).val

/-- The tensor of rank 3 with a given entry at each triple of coordinates. -/
def of3 {l m n : ℕ} (G : ℕ → ℕ → ℕ → EReal) : (⟨3, ![l, m, n]⟩ : Shape).Idx → EReal :=
  fun i => G (i 0).val (i 1).val (i 2).val

/-- A stored value is a block of a tensor: checked entry by entry. -/
theorem block2 {m n m' n' : ℕ} (G : ℕ → ℕ → EReal) (o0 o1 : ℕ) (inb) (pay : (⟨2, ![m', n']⟩ : Shape).Idx → EReal)
    (h : ∀ (i : Fin m') (j : Fin n'), pay (ix2 i j) = G (o0 + i) (o1 + j)) :
    ∀ x : (Rect.unit (s := ⟨2, ![m, n]⟩) ![o0, o1] ![m', n'] inb).shape.Idx,
      pay x = (of2 G : (⟨2, ![m, n]⟩ : Shape).Idx → EReal) ((Rect.unit (s := ⟨2, ![m, n]⟩) ![o0, o1] ![m', n'] inb).emb x) := by
  intro x
  rw [eq_ix2 x]
  refine (h _ _).trans ?_
  change _ = G ((Rect.unit (s := ⟨2, ![m, n]⟩) ![o0, o1] ![m', n'] inb).idx x 0).val
    ((Rect.unit (s := ⟨2, ![m, n]⟩) ![o0, o1] ![m', n'] inb).idx x 1).val
  simp

theorem block3 {l m n l' m' n' : ℕ} (G : ℕ → ℕ → ℕ → EReal) (o0 o1 o2 : ℕ) (inb) (pay : (⟨3, ![l', m', n']⟩ : Shape).Idx → EReal)
    (h : ∀ (i : Fin l') (j : Fin m') (k : Fin n'), pay (ix3 i j k) = G (o0 + i) (o1 + j) (o2 + k)) :
    ∀ x : (Rect.unit (s := ⟨3, ![l, m, n]⟩) ![o0, o1, o2] ![l', m', n'] inb).shape.Idx,
      pay x = (of3 G : (⟨3, ![l, m, n]⟩ : Shape).Idx → EReal) ((Rect.unit (s := ⟨3, ![l, m, n]⟩) ![o0, o1, o2] ![l', m', n'] inb).emb x) := by
  intro x
  rw [eq_ix3 x]
  refine (h _ _ _).trans ?_
  change _ = G ((Rect.unit (s := ⟨3, ![l, m, n]⟩) ![o0, o1, o2] ![l', m', n'] inb).idx x 0).val
    ((Rect.unit (s := ⟨3, ![l, m, n]⟩) ![o0, o1, o2] ![l', m', n'] inb).idx x 1).val
    ((Rect.unit (s := ⟨3, ![l, m, n]⟩) ![o0, o1, o2] ![l', m', n'] inb).idx x 2).val
  simp

end Cert.Math

end

end
-- ==== Proof.ValueQuant.lean ====
/-
  The kernel's quantiser at an index: the scale of a token and the codes of its entries.
-/
module

public import proofs.«01_k».proof.Proof.ValueBase

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem

/-- One step of the search, as the kernel's integer operations spell it. -/
theorem step_eq (a : EReal) (ex s : BitVec 32)
    [Decidable (Ideal.ofBits .f32 (IntOp.shli .vector (IntOp.addi ex s) 23#32) ≤ a)] :
    (if Ideal.ofBits .f32 (IntOp.shli .vector (IntOp.addi ex s) 23#32) ≤ a then IntOp.addi ex s else ex) = step a s ex := by
  unfold step
  exact if_congr Iff.rfl rfl rfl

/-- The choice of the exponent, as the kernel's integer operations spell it. -/
theorem lift_eq (ex : BitVec 32) :
    Scalar.select (IntOp.ori (IntOp.cmpi CmpIPredicate.eq ex 0#32) (IntOp.cmpi CmpIPredicate.eq ex 255#32)) 0#32
      (IntOp.subi ex 126#32) = if ex = 0 ∨ ex = 255 then 0 else ex - 126 := by
  rw [Scalar.select]
  refine if_congr ?_ rfl rfl
  simp only [IntOp.ori, IntOp.cmpi]
  by_cases h : ex = 0#32
  · subst h; decide
  by_cases h' : ex = 255#32
  · subst h'; decide
  simp [h, h', BitVec.ofBool, beq_eq_false_iff_ne.mpr h, beq_eq_false_iff_ne.mpr h']

/-- The search after its first steps. -/
def high (a : EReal) : BitVec 32 := step a 8 (step a 16 (step a 32 (step a 64 (step a 128 0))))

section Payloads

variable (X : ℕ → ℕ → ℕ → EReal)

/-! ### The first batch -/

theorem search_0 (a : FVec Ideal S1x128 .f32) (s : Fin 128) :
    k0_pay32 a k0_pay29 k0_pay30 k0_pay31 (ix2 0 s) = high (a (ix2 0 s)) := by
  pointwise [k0_pay32, k0_pay29, k0_pay30, k0_pay31]
  simp only [step_eq]
  rfl

theorem search_0' (a : FVec Ideal S1x128 .f32) (s : Fin 128) :
    k0_pay33 a k0_pay29 k0_pay30 k0_pay31 (ix2 0 s) = IntOp.addi (high (a (ix2 0 s))) 4#32 := by
  rw [← search_0]
  rfl

theorem lift_0 (a : FVec Ideal S1x128 .f32) (x y : IVec S1x128 32) (s : Fin 128)
    (hx : x (ix2 0 s) = high (a (ix2 0 s))) (hy : y (ix2 0 s) = IntOp.addi (high (a (ix2 0 s))) 4#32) :
    k0_pay35 a x y k0_pay34 (ix2 0 s) = lift (a (ix2 0 s)) := by
  pointwise [k0_pay35, k0_pay34]
  rw [hy, hx]
  simp only [step_eq, lift_eq]
  rfl

theorem scale_0 (a : FVec Ideal S1x128 .f32) (x y : IVec S1x128 32) (s : Fin 128)
    (hx : x (ix2 0 s) = high (a (ix2 0 s))) (hy : y (ix2 0 s) = IntOp.addi (high (a (ix2 0 s))) 4#32) :
    k0_pay36 a x y k0_pay34 (ix2 0 s) = scale (a (ix2 0 s)) := by
  pointwise [k0_pay36]
  rw [lift_0 a x y s hx hy]
  rfl

theorem inv_0 (a : FVec Ideal S1x128 .f32) (x y : IVec S1x128 32) (d : Fin 2880) (s : Fin 128)
    (hx : x (ix2 0 s) = high (a (ix2 0 s))) (hy : y (ix2 0 s) = IntOp.addi (high (a (ix2 0 s))) 4#32) :
    k0_pay37 a x y k0_pay34 (ix2 d s) = inv (a (ix2 0 s)) := by
  pointwise [k0_pay37]
  rw [lift_0 a x y s hx hy]
  rfl

theorem entry_0 (b : ℕ) (v : FVec Ideal S1x2880x128 .bf16) (h : ∀ (d : Fin 2880) (s : Fin 128), v (ix3 0 d s) = X b d s)
    (d : Fin 2880) (s : Fin 128) : (k0_pay27 v : FVec Ideal S2880x128 .bf16) (ix2 d s) = X b d s := by
  pointwise [k0_pay27]
  exact h d s

theorem level_0 (b : ℕ) (v : FVec Ideal S1x2880x128 .bf16) (h : ∀ (d : Fin 2880) (s : Fin 128), v (ix3 0 d s) = X b d s)
    (s : Fin 128) : (k0_pay28 v : FVec Ideal S1x128 .f32) (ix2 0 s) = level X b s := by
  pointwise [k0_pay28, k0_pay27]
  simp only [h]
  rfl

/-! ### The second batch -/

theorem entry_1 (b : ℕ) (v : FVec Ideal S1x2880x128 .bf16) (h : ∀ (d : Fin 2880) (s : Fin 128), v (ix3 0 d s) = X b d s)
    (d : Fin 2880) (s : Fin 128) : (k0_pay42 v : FVec Ideal S2880x128 .bf16) (ix2 d s) = X b d s := by
  pointwise [k0_pay42]
  exact h d s

theorem level_1 (b : ℕ) (v : FVec Ideal S1x2880x128 .bf16) (h : ∀ (d : Fin 2880) (s : Fin 128), v (ix3 0 d s) = X b d s)
    (s : Fin 128) : (k0_pay43 v : FVec Ideal S1x128 .f32) (ix2 0 s) = level X b s := by
  pointwise [k0_pay43, k0_pay42]
  simp only [h]
  rfl

theorem first_1 (v : FVec Ideal S1x2880x128 .bf16) (s : Fin 128) :
    k0_pay44 (F := Ideal) v (ix2 0 s) = step ((k0_pay43 v : FVec Ideal S1x128 .f32) (ix2 0 s)) 128 0 := by
  pointwise [k0_pay44]
  simp only [step_eq]
  rfl

theorem search_1 (a : FVec Ideal S1x128 .f32) (x : IVec S1x128 32) (s : Fin 128)
    (hx : x (ix2 0 s) = step (a (ix2 0 s)) 128 0) :
    k0_pay46 a x k0_pay45 (ix2 0 s) = step (a (ix2 0 s)) 4 (high (a (ix2 0 s))) := by
  pointwise [k0_pay46, k0_pay45]
  rw [hx]
  simp only [step_eq]
  rfl

theorem lift_1 (a : FVec Ideal S1x128 .f32) (x : IVec S1x128 32) (s : Fin 128)
    (hx : x (ix2 0 s) = step (a (ix2 0 s)) 4 (high (a (ix2 0 s)))) :
    k0_pay48 a x k0_pay47 (ix2 0 s) = lift (a (ix2 0 s)) := by
  pointwise [k0_pay48, k0_pay47]
  rw [hx]
  simp only [step_eq, lift_eq]
  rfl

theorem scale_1 (a : FVec Ideal S1x128 .f32) (x : IVec S1x128 32) (s : Fin 128)
    (hx : x (ix2 0 s) = step (a (ix2 0 s)) 4 (high (a (ix2 0 s)))) :
    k0_pay49 a x k0_pay47 (ix2 0 s) = scale (a (ix2 0 s)) := by
  pointwise [k0_pay49]
  rw [lift_1 a x s hx]
  rfl

theorem code_1 (e : FVec Ideal S2880x128 .bf16) (a : FVec Ideal S1x128 .f32) (x : IVec S1x128 32) (d : Fin 2880) (s : Fin 128)
    (hx : x (ix2 0 s) = step (a (ix2 0 s)) 4 (high (a (ix2 0 s)))) :
    k0_pay50 e a x k0_pay47 (ix2 d s) = min (Ideal.ofBits .f32 1138753536#32)
      (max (Ideal.ofBits .f32 3286237184#32) (e (ix2 d s) * inv (a (ix2 0 s)))) := by
  pointwise [k0_pay50]
  rw [lift_1 a x s hx]
  rfl

end Payloads

end Cert.KernelIdeal.Value

end

end
-- ==== Proof.ValueCodes.lean ====
/-
  The kernel's codes and scales: what its two scratch buffers hold, and what its copies return.
-/
module

public import proofs.«01_k».proof.Proof.ValueQuant

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

section

variable (c : Dev nD) (f0 : BufAt (F := Ideal) c sM0) (h0 : BufAt (F := Ideal) c hM0)

/-- The kernel's transposed input. -/
def X0 : ℕ → ℕ → ℕ → EReal := at3 (dma0_4 c h0)

theorem load_x (B : LoadRect S2x2880x128) (j : B.shape.Idx) (b d s : ℕ) (e0 : (B.idx j 0).val = b) (e1 : (B.idx j 1).val = d)
    (e2 : (B.idx j 2).val = s) :
    View.readAt (Elt Ideal) sM0.view B (View.write (Elt Ideal) sM0.view f0 (dma0_4 c h0) Finset.univ) j = X0 c h0 b d s := by
  rw [load_filled]
  subst e0 e1 e2
  exact at3_idx _ _

theorem v315_at (s : Fin 128) : (v315 c f0 h0 : FVec Ideal S1x128 .f32) (ix2 0 s) = level (X0 c h0) 0 s :=
  level_0 _ 0 _ (fun d s => load_x c f0 h0 _ _ _ _ _ (by simp) (by simp) (by simp)) s

theorem v402_at (s : Fin 128) : (v402 c f0 h0 : FVec Ideal S1x128 .f32) (ix2 0 s) = xs (X0 c h0) 0 s := by
  refine (scale_0 _ _ _ s (search_0 _ s) (search_0' _ s)).trans ?_
  rw [v315_at]
  rfl

theorem v409_at (d : Fin 2880) (s : Fin 128) : (v409 c f0 h0 : FVec Ideal S2880x128 .bf16) (ix2 d s) = inv (level (X0 c h0) 0 s) := by
  refine (inv_0 _ _ _ d s (search_0 _ s) (search_0' _ s)).trans ?_
  rw [v315_at]

theorem v309_at (d : Fin 2880) (s : Fin 128) : (v309 c f0 h0 : FVec Ideal S2880x128 .bf16) (ix2 d s) = X0 c h0 0 d s :=
  entry_0 _ 0 _ (fun d s => load_x c f0 h0 _ _ _ _ _ (by simp) (by simp) (by simp)) d s

theorem v436_at (s : Fin 128) : (v436 c f0 h0 : FVec Ideal S1x128 .f32) (ix2 0 s) = level (X0 c h0) 1 s :=
  level_1 _ 1 _ (fun d s => load_x c f0 h0 _ _ _ _ _ (by simp) (by simp) (by simp)) s

theorem v491_at (s : Fin 128) :
    v491 c f0 h0 (ix2 0 s) = step ((v436 c f0 h0 : FVec Ideal S1x128 .f32) (ix2 0 s)) 4 (high ((v436 c f0 h0 : FVec Ideal S1x128 .f32) (ix2 0 s))) :=
  search_1 _ _ s (first_1 _ s)

theorem v523_at (s : Fin 128) : (v523 c f0 h0 : FVec Ideal S1x128 .f32) (ix2 0 s) = xs (X0 c h0) 1 s := by
  refine (scale_1 _ _ s (v491_at c f0 h0 s)).trans ?_
  rw [v436_at]
  rfl

theorem v537_at (d : Fin 2880) (s : Fin 128) : (v537 c f0 h0 : FVec Ideal S2880x128 .bf16) (ix2 d s) = code (X0 c h0) 1 d s := by
  refine (code_1 _ _ _ d s (v491_at c f0 h0 s)).trans ?_
  rw [v436_at]
  have := entry_1 (X0 c h0) 1 _ (fun d s => load_x c f0 h0 (Rect.unit (s := S2x2880x128) ![1, 0, 0] S1x2880x128.size inb_S2x2880x128_S1x2880x128_1_0_0).toLoadRect (ix3 0 d s) 1 d s (by simp) (by simp) (by simp)) d s
  rw [code, ← this]
  rfl

/-- The codes, one row per token. -/
def codeRow (X : ℕ → ℕ → ℕ → EReal) (r d : ℕ) : EReal := code X (r / 128) d (r % 128)

theorem S6_2_of : View.PiecesOf (Val := Elt Ideal) (of3 (code (X0 c h0)) : S2x2880x128.Idx → EReal) (S6_2 c f0 h0) := by
  refine ⟨?_, ?_, trivial⟩
  · refine block3 _ 1 0 0 inb_S2x2880x128_S1x2880x128_1_0_0 _ fun i d s => ?_
    obtain rfl : i = 0 := Subsingleton.elim _ _
    pointwise [k0_pay51]
    simpa using v537_at c f0 h0 d s
  · refine block3 _ 0 0 0 inb_S2x2880x128_S1x2880x128_0_0_0 _ fun i d s => ?_
    obtain rfl : i = 0 := Subsingleton.elim _ _
    pointwise [k0_pay39, k0_pay38]
    rw [v309_at, v409_at]
    simp [code]

theorem S7_2_of : View.PiecesOf (Val := Elt Ideal) (of2 (xs (X0 c h0)) : S2x128.Idx → EReal) (S7_2 c f0 h0) := by
  refine ⟨?_, ?_, trivial⟩
  · refine block2 _ 1 0 inb_S2x128_S1x128_1_0 _ fun i s => ?_
    obtain rfl : i = 0 := Subsingleton.elim _ _
    pointwise [k0_pay53]
    simpa using v523_at c f0 h0 s
  · refine block2 _ 0 0 inb_S2x128_S1x128_0_0 _ fun i s => ?_
    obtain rfl : i = 0 := Subsingleton.elim _ _
    pointwise [k0_pay41]
    simpa using v402_at c f0 h0 s

theorem S9_2_of : View.PiecesOf (Val := Elt Ideal) (of2 (codeRow (X0 c h0)) : S256x2880.Idx → EReal) (S9_2 c f0 h0) := by
  refine ⟨?_, ?_, trivial⟩
  · refine block2 _ 128 0 inb_S256x2880_S128x2880_128_0 _ fun s d => ?_
    pointwise [k0_pay52]
    rw [v537_at, codeRow, show (128 + (s : ℕ)) / 128 = 1 by omega, show (128 + (s : ℕ)) % 128 = s by omega]
  · refine block2 _ 0 0 inb_S256x2880_S128x2880_0_0 _ fun s d => ?_
    pointwise [k0_pay40, k0_pay38]
    rw [v309_at, v409_at, codeRow, show (s : ℕ) / 128 = 0 by omega, show (s : ℕ) % 128 = s by omega]
    rfl

theorem v1014_eq : v1014 c f0 h0 = (of2 (codeRow (X0 c h0)) : S256x2880.Idx → EReal) := by
  refine (load_stored _ _ _ (S9_2_of c f0 h0) (View.cover_of_tiled _ ![128, 2880] (by rfl)) _).trans ?_
  funext j
  simp [of2]

theorem codes_eq (f6 : BufAt (F := Ideal) c sM6) : dma232 c f0 f6 h0 = (of3 (code (X0 c h0)) : S2x2880x128.Idx → EReal) :=
  read_stored _ _ _ _ (S6_2_of c f0 h0) (View.cover_of_tiled _ ![1, 2880, 128] (by rfl))

theorem scales_eq (f7 : BufAt (F := Ideal) c sM7) : dma232_1 c f0 f7 h0 = (of2 (xs (X0 c h0)) : S2x128.Idx → EReal) :=
  read_stored _ _ _ _ (S7_2_of c f0 h0) (View.cover_of_tiled _ ![1, 128] (by rfl))

end

end Cert.KernelIdeal.Value

end

end
-- ==== Proof.ValueLora.lean ====
/- The low-rank adapter of the kernel: what its buffers hold, as numbers. -/
module

public import proofs.«01_k».proof.Proof.ValueCodes

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

/-- The kernel's remainder by 16, on the words of the columns. -/
theorem mod_word : ∀ k : Fin 192,
    (Scalar.select
        (IntOp.andi
          (IntOp.xori
            (IntOp.cmpi CmpIPredicate.slt
              (IntOp.remsi ArithUnit.vector (BitVec.ofNat 32 ↑k)
                (Scalar.select (Scalar.cmpi CmpIPredicate.eq 16#32 0#32) 1#32 16#32))
              0#32)
            (Scalar.cmpi CmpIPredicate.slt (Scalar.select (Scalar.cmpi CmpIPredicate.eq 16#32 0#32) 1#32 16#32) 0#32))
          (IntOp.cmpi CmpIPredicate.ne
            (IntOp.remsi ArithUnit.vector (BitVec.ofNat 32 ↑k)
              (Scalar.select (Scalar.cmpi CmpIPredicate.eq 16#32 0#32) 1#32 16#32))
            0#32))
        (IntOp.addi
          (IntOp.remsi ArithUnit.vector (BitVec.ofNat 32 ↑k)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 ↑k)
          (Scalar.select (Scalar.cmpi CmpIPredicate.eq 16#32 0#32) 1#32 16#32))) = BitVec.ofNat 32 (k % 16) := by
  decide +kernel

/-- The kernel's floor division by 16, on the words of the columns. -/
theorem div_word : ∀ k : Fin 192,
      (Scalar.select
        (IntOp.andi
          (IntOp.cmpi CmpIPredicate.ne
            (IntOp.subi (BitVec.setWidth 32 (IntOp.cmpi CmpIPredicate.sgt (BitVec.ofNat 32 ↑k) 0#32))
              (BitVec.setWidth 32 (IntOp.cmpi CmpIPredicate.slt (BitVec.ofNat 32 ↑k) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 ↑k) 16#32) 0#32))
        (IntOp.subi (IntOp.divsi ArithUnit.vector (BitVec.ofNat 32 ↑k) 16#32) 1#32)
        (IntOp.divsi ArithUnit.vector (BitVec.ofNat 32 ↑k) 16#32)) = BitVec.ofNat 32 (k / 16) := by
  decide +kernel

theorem ofNat_beq (m n : ℕ) (hm : m < 192) (hn : n < 192) :
    IntOp.cmpi CmpIPredicate.eq (BitVec.ofNat 32 m) (BitVec.ofNat 32 n) = BitVec.ofBool (decide (m = n)) := by
  have : (BitVec.ofNat 32 m = BitVec.ofNat 32 n) ↔ m = n := by
    rw [← BitVec.toNat_inj, BitVec.toNat_ofNat, BitVec.toNat_ofNat, Nat.mod_eq_of_lt (by omega), Nat.mod_eq_of_lt (by omega)]
  simp only [IntOp.cmpi, ← this]
  rfl

/-- The kernel's mask picks column `k` in row `i` when `k` is `i` modulo 16. -/
theorem mask_mod (i : Fin 16) (k : Fin 192) : k0_pay3 (ix2 i k) = BitVec.ofBool (decide (k % 16 = (i : ℕ))) := by
  pointwise [k0_pay3]
  rw [mod_word, ofNat_beq _ _ (by omega) (by omega)]

/-- The kernel's mask picks column `k` in row `p` when `k` lies in the block `p` of 16. -/
theorem mask_div (p : Fin 12) (k : Fin 192) : k0_pay1 (ix2 p k) = BitVec.ofBool (decide (k / 16 = (p : ℕ))) := by
  pointwise [k0_pay1]
  rw [div_word, ofNat_beq _ _ (by omega) (by omega)]

/-- The small factor with each entry repeated over a block of 16 columns. -/
theorem repeated (v : FVec Ideal S12x18 .bf16) (a : Fin 18) (k : Fin 192) :
    (k0_pay2 k0_pay1 v : FVec Ideal S18x192 .f32) (ix2 a k) = v (ix2 ⟨k / 16, by omega⟩ a) := by
  pointwise [k0_pay2]
  rw [Finset.sum_eq_single ⟨k / 16, by omega⟩]
  · rw [mask_div]
    simp only [decide_true]
    change v _ * (((1#32 : BitVec 32).toInt : ℝ) : EReal) = _
    simp
  · intro x _ hx
    rw [mask_div, decide_eq_false (fun h => hx (Fin.ext h.symm))]
    change v _ * (((0#32 : BitVec 32).toInt : ℝ) : EReal) = _
    simp
  · simp

/-- The rows of the spread factor for one output block: the entries of column `a`, on the diagonals of the 16-wide blocks. -/
def spreadRow (a : ℕ) (h : S18x192.Slices ![a, 0] S1x192) (v : FVec Ideal S18x192 .f32) : FVec Ideal S16x192 .bf16 :=
  shapeCast S16x192 (truncf .bf16 (select k0_pay3 (broadcastTo S16x192 (shapeCast S1x192 (extractStridedSlice S1x192 ![a, 0] v h)
    shapeCasts_S1x192_S1x192) broadcasts_S1x192_S16x192) (broadcast S16x192 (Scalar.ofBits (F := Ideal) .f32 0x00000000#32))) bitsLt_bf16_f32)
    shapeCasts_S16x192_S16x192

/-- The spread factor: row `16 a + i`, column `16 p + k` holds entry `(p, a)` when `k = i`. -/
def spread (C : ℕ → ℕ → EReal) (r k : ℕ) : EReal := if k % 16 = r % 16 then C (k / 16) (r / 16) else 0

section

variable (c : Dev nD) (f0 : BufAt (F := Ideal) c sM0) (f3 : BufAt (F := Ideal) c sM3) (f4 : BufAt (F := Ideal) c sM4)
  (f5 : BufAt (F := Ideal) c sM5) (h0 : BufAt (F := Ideal) c hM0) (h3 : BufAt (F := Ideal) c hM3) (h4 : BufAt (F := Ideal) c hM4)
  (h5 : BufAt (F := Ideal) c hM5)

/-- The small factor, transposed as the kernel reads it. -/
def C0 : ℕ → ℕ → EReal := at2 (dma0 c h3)

/-- The down factor. -/
def D0 : ℕ → ℕ → EReal := at2 (dma0_1 c h4)

/-- The up factor, from its transpose. -/
def U0 (o i : ℕ) : EReal := at2 (dma0_2 c h5) i o

theorem load_c (p : Fin 12) (a : Fin 18) :
    (View.readAt (Elt Ideal) sM3.view (Rect.unit (s := S12x18) ![0, 0] S12x18.size inb_S12x18_S12x18_0_0).toLoadRect
      (View.write (Elt Ideal) sM3.view f3 (dma0 c h3) Finset.univ) : FVec Ideal S12x18 .bf16) (ix2 p a) = C0 c h3 p a := by
  rw [load_filled]
  refine (at2_idx _ _).trans ?_
  simp [C0]

theorem load_d (i : Fin 40) (d : Fin 240) :
    (View.readAt (Elt Ideal) sM4.view (Rect.unit (s := S40x240) ![0, 0] S40x240.size inb_S40x240_S40x240_0_0).toLoadRect
      (View.write (Elt Ideal) sM4.view f4 (dma0_1 c h4) Finset.univ) : FVec Ideal S40x240 .bf16) (ix2 i d) = D0 c h4 i d := by
  rw [load_filled]
  refine (at2_idx _ _).trans ?_
  simp [D0]

theorem v305_at (o : Fin 480) (i : Fin 40) : (v305 c f5 h5 : FVec Ideal S480x40 .bf16) (ix2 o i) = U0 c h5 o i := by
  unfold v305
  pointwise [k0_pay26]
  rw [load_filled]
  refine (at2_idx _ _).trans ?_
  simp [U0]

/-! ### The spread factor -/

theorem v120_at (a : Fin 18) (k : Fin 192) : (v120 c f3 h3 : FVec Ideal S18x192 .f32) (ix2 a k) = C0 c h3 (k / 16) a :=
  (repeated _ a k).trans (load_c c f3 h3 _ a)

theorem spreadRow_at (a : ℕ) (ha : a < 18) (h : S18x192.Slices ![a, 0] S1x192) (r0 : ℕ) (hr : r0 = 16 * a) (i : Fin 16) (k : Fin 192) :
    spreadRow a h (v120 c f3 h3) (ix2 i k) = spread (C0 c h3) (r0 + i) (0 + k) := by
  subst hr
  rw [Nat.zero_add]
  pointwise [spreadRow]
  rw [mask_mod, v120_at, spread, show (16 * a + (i : ℕ)) % 16 = i by omega, show (16 * a + (i : ℕ)) / 16 = a by omega]
  by_cases hk : (k : ℕ) % 16 = i
  · rw [decide_eq_true hk, if_pos hk]
    rfl
  · rw [decide_eq_false hk, if_neg hk]
    rfl

theorem S11_18_of : View.PiecesOf (Val := Elt Ideal) (of2 (spread (C0 c h3)) : S288x192.Idx → EReal) (S11_18 c f3 h3) := by
  refine ⟨?_, ?_, ?_, ?_, ?_, ?_, ?_, ?_, ?_, ?_, ?_, ?_, ?_, ?_, ?_, ?_, ?_, ?_, trivial⟩
  · exact block2 _ 272 0 inb_S288x192_S16x192_272_0 _ (spreadRow_at c f3 h3 17 (by decide) slices_S18x192_o17_0_S1x192 272 rfl)
  · exact block2 _ 256 0 inb_S288x192_S16x192_256_0 _ (spreadRow_at c f3 h3 16 (by decide) slices_S18x192_o16_0_S1x192 256 rfl)
  · exact block2 _ 240 0 inb_S288x192_S16x192_240_0 _ (spreadRow_at c f3 h3 15 (by decide) slices_S18x192_o15_0_S1x192 240 rfl)
  · exact block2 _ 224 0 inb_S288x192_S16x192_224_0 _ (spreadRow_at c f3 h3 14 (by decide) slices_S18x192_o14_0_S1x192 224 rfl)
  · exact block2 _ 208 0 inb_S288x192_S16x192_208_0 _ (spreadRow_at c f3 h3 13 (by decide) slices_S18x192_o13_0_S1x192 208 rfl)
  · exact block2 _ 192 0 inb_S288x192_S16x192_192_0 _ (spreadRow_at c f3 h3 12 (by decide) slices_S18x192_o12_0_S1x192 192 rfl)
  · exact block2 _ 176 0 inb_S288x192_S16x192_176_0 _ (spreadRow_at c f3 h3 11 (by decide) slices_S18x192_o11_0_S1x192 176 rfl)
  · exact block2 _ 160 0 inb_S288x192_S16x192_160_0 _ (spreadRow_at c f3 h3 10 (by decide) slices_S18x192_o10_0_S1x192 160 rfl)
  · exact block2 _ 144 0 inb_S288x192_S16x192_144_0 _ (spreadRow_at c f3 h3 9 (by decide) slices_S18x192_o9_0_S1x192 144 rfl)
  · exact block2 _ 128 0 inb_S288x192_S16x192_128_0 _ (spreadRow_at c f3 h3 8 (by decide) slices_S18x192_o8_0_S1x192 128 rfl)
  · exact block2 _ 112 0 inb_S288x192_S16x192_112_0 _ (spreadRow_at c f3 h3 7 (by decide) slices_S18x192_o7_0_S1x192 112 rfl)
  · exact block2 _ 96 0 inb_S288x192_S16x192_96_0 _ (spreadRow_at c f3 h3 6 (by decide) slices_S18x192_o6_0_S1x192 96 rfl)
  · exact block2 _ 80 0 inb_S288x192_S16x192_80_0 _ (spreadRow_at c f3 h3 5 (by decide) slices_S18x192_o5_0_S1x192 80 rfl)
  · exact block2 _ 64 0 inb_S288x192_S16x192_64_0 _ (spreadRow_at c f3 h3 4 (by decide) slices_S18x192_o4_0_S1x192 64 rfl)
  · exact block2 _ 48 0 inb_S288x192_S16x192_48_0 _ (spreadRow_at c f3 h3 3 (by decide) slices_S18x192_o3_0_S1x192 48 rfl)
  · exact block2 _ 32 0 inb_S288x192_S16x192_32_0 _ (spreadRow_at c f3 h3 2 (by decide) slices_S18x192_o2_0_S1x192 32 rfl)
  · exact block2 _ 16 0 inb_S288x192_S16x192_16_0 _ (spreadRow_at c f3 h3 1 (by decide) slices_S18x192_o1_0_S1x192 16 rfl)
  · exact block2 _ 0 0 inb_S288x192_S16x192_0_0 _ (spreadRow_at c f3 h3 0 (by decide) slices_S18x192_o0_0_S1x192 0 rfl)

theorem v708_eq : v708 c f3 h3 = (of2 (spread (C0 c h3)) : S288x192.Idx → EReal) := by
  refine (load_stored _ _ _ (S11_18_of c f3 h3) (View.cover_of_tiled _ ![16, 192] (by rfl)) _).trans ?_
  funext j
  simp [of2]

/-! ### The two products of each block -/

theorem up_at (p q : ℕ) (hq : q = 240 * p) (i0) (i1) (o : Fin 480) (r : Fin 256) :
    (k0_pay54 (v305 c f5 h5)
      (View.readAt (Elt Ideal) sM0.view (Rect.unit (s := S2x2880x128) ![0, q, 0] S1x240x128.size i0).toLoadRect
        (View.write (Elt Ideal) sM0.view f0 (dma0_4 c h0) Finset.univ))
      (View.readAt (Elt Ideal) sM0.view (Rect.unit (s := S2x2880x128) ![1, q, 0] S1x240x128.size i1).toLoadRect
        (View.write (Elt Ideal) sM0.view f0 (dma0_4 c h0) Finset.univ))
      (View.readAt (Elt Ideal) sM4.view (Rect.unit (s := S40x240) ![0, 0] S40x240.size inb_S40x240_S40x240_0_0).toLoadRect
        (View.write (Elt Ideal) sM4.view f4 (dma0_1 c h4) Finset.univ)) : FVec Ideal S1x480x256 .bf16) (ix3 0 o r)
      = up (X0 c h0) (D0 c h4) (U0 c h5) p o r := by
  pointwise [k0_pay54]
  unfold up down
  refine Finset.sum_congr rfl fun i _ => ?_
  rw [v305_at]
  refine congrArg (HMul.hMul (U0 c h5 o i)) (Finset.sum_congr rfl fun d _ => ?_)
  rw [load_d]
  refine congrArg (HMul.hMul (D0 c h4 i d)) ?_
  by_cases hr : (r : ℕ) < 128
  · rw [dif_pos hr, tok, show (r : ℕ) / 128 = 0 by omega, show (r : ℕ) % 128 = r by omega]
    exact load_x c f0 h0 _ _ _ _ _ (by simp) (by simp [hq]) (by simp)
  · rw [dif_neg hr, tok, show (r : ℕ) / 128 = 1 by omega, show (r : ℕ) % 128 = r - 128 by omega]
    exact load_x c f0 h0 _ _ _ _ _ (by simp) (by simp [hq]) (by simp)

/-- The same, as a block of the buffer. -/
theorem up_block (p q : ℕ) (hq : q = 240 * p) (i0) (i1) (z : Fin 1) (o : Fin 480) (r : Fin 256) :
    (k0_pay54 (v305 c f5 h5)
      (View.readAt (Elt Ideal) sM0.view (Rect.unit (s := S2x2880x128) ![0, q, 0] S1x240x128.size i0).toLoadRect
        (View.write (Elt Ideal) sM0.view f0 (dma0_4 c h0) Finset.univ))
      (View.readAt (Elt Ideal) sM0.view (Rect.unit (s := S2x2880x128) ![1, q, 0] S1x240x128.size i1).toLoadRect
        (View.write (Elt Ideal) sM0.view f0 (dma0_4 c h0) Finset.univ))
      (View.readAt (Elt Ideal) sM4.view (Rect.unit (s := S40x240) ![0, 0] S40x240.size inb_S40x240_S40x240_0_0).toLoadRect
        (View.write (Elt Ideal) sM4.view f4 (dma0_1 c h4) Finset.univ)) : FVec Ideal S1x480x256 .bf16) (ix3 z o r)
      = up (X0 c h0) (D0 c h4) (U0 c h5) (p + z) (0 + o) (0 + r) := by
  obtain rfl : z = 0 := Subsingleton.elim _ _
  refine (up_at c f0 f4 f5 h0 h4 h5 p q hq i0 i1 o r).trans ?_
  simp

theorem S10_12_of : View.PiecesOf (Val := Elt Ideal) (of3 (up (X0 c h0) (D0 c h4) (U0 c h5)) : S12x480x256.Idx → EReal)
    (S10_12 c f0 f4 f5 h0 h4 h5) := by
  refine ⟨?_, ?_, ?_, ?_, ?_, ?_, ?_, ?_, ?_, ?_, ?_, ?_, trivial⟩
  · exact block3 _ 11 0 0 inb_S12x480x256_S1x480x256_11_0_0 _ (up_block c f0 f4 f5 h0 h4 h5 11 2640 rfl inb_S2x2880x128_S1x240x128_0_2640_0 inb_S2x2880x128_S1x240x128_1_2640_0)
  · exact block3 _ 10 0 0 inb_S12x480x256_S1x480x256_10_0_0 _ (up_block c f0 f4 f5 h0 h4 h5 10 2400 rfl inb_S2x2880x128_S1x240x128_0_2400_0 inb_S2x2880x128_S1x240x128_1_2400_0)
  · exact block3 _ 9 0 0 inb_S12x480x256_S1x480x256_9_0_0 _ (up_block c f0 f4 f5 h0 h4 h5 9 2160 rfl inb_S2x2880x128_S1x240x128_0_2160_0 inb_S2x2880x128_S1x240x128_1_2160_0)
  · exact block3 _ 8 0 0 inb_S12x480x256_S1x480x256_8_0_0 _ (up_block c f0 f4 f5 h0 h4 h5 8 1920 rfl inb_S2x2880x128_S1x240x128_0_1920_0 inb_S2x2880x128_S1x240x128_1_1920_0)
  · exact block3 _ 7 0 0 inb_S12x480x256_S1x480x256_7_0_0 _ (up_block c f0 f4 f5 h0 h4 h5 7 1680 rfl inb_S2x2880x128_S1x240x128_0_1680_0 inb_S2x2880x128_S1x240x128_1_1680_0)
  · exact block3 _ 6 0 0 inb_S12x480x256_S1x480x256_6_0_0 _ (up_block c f0 f4 f5 h0 h4 h5 6 1440 rfl inb_S2x2880x128_S1x240x128_0_1440_0 inb_S2x2880x128_S1x240x128_1_1440_0)
  · exact block3 _ 5 0 0 inb_S12x480x256_S1x480x256_5_0_0 _ (up_block c f0 f4 f5 h0 h4 h5 5 1200 rfl inb_S2x2880x128_S1x240x128_0_1200_0 inb_S2x2880x128_S1x240x128_1_1200_0)
  · exact block3 _ 4 0 0 inb_S12x480x256_S1x480x256_4_0_0 _ (up_block c f0 f4 f5 h0 h4 h5 4 960 rfl inb_S2x2880x128_S1x240x128_0_960_0 inb_S2x2880x128_S1x240x128_1_960_0)
  · exact block3 _ 3 0 0 inb_S12x480x256_S1x480x256_3_0_0 _ (up_block c f0 f4 f5 h0 h4 h5 3 720 rfl inb_S2x2880x128_S1x240x128_0_720_0 inb_S2x2880x128_S1x240x128_1_720_0)
  · exact block3 _ 2 0 0 inb_S12x480x256_S1x480x256_2_0_0 _ (up_block c f0 f4 f5 h0 h4 h5 2 480 rfl inb_S2x2880x128_S1x240x128_0_480_0 inb_S2x2880x128_S1x240x128_1_480_0)
  · exact block3 _ 1 0 0 inb_S12x480x256_S1x480x256_1_0_0 _ (up_block c f0 f4 f5 h0 h4 h5 1 240 rfl inb_S2x2880x128_S1x240x128_0_240_0 inb_S2x2880x128_S1x240x128_1_240_0)
  · exact block3 _ 0 0 0 inb_S12x480x256_S1x480x256_0_0_0 _ (up_block c f0 f4 f5 h0 h4 h5 0 0 rfl inb_S2x2880x128_S1x240x128_0_0_0 inb_S2x2880x128_S1x240x128_1_0_0)

/-- A load of 16 rows of every block. -/
theorem load_t (q : ℕ) (i0) (p : Fin 12) (o : Fin 16) (r : Fin 256) :
    (sM10.view.readCov (Val := Elt Ideal) (S10_12 c f0 f4 f5 h0 h4 h5)
      (Rect.unit (s := S12x480x256) ![0, q, 0] S12x16x256.size i0).toLoadRect : FVec Ideal S12x16x256 .bf16) (ix3 p o r)
      = up (X0 c h0) (D0 c h4) (U0 c h5) p (q + o) r := by
  refine (congrFun (load_stored _ _ _ (S10_12_of c f0 f4 f5 h0 h4 h5) (View.cover_of_tiled _ ![1, 480, 256] (by rfl)) _) _).trans ?_
  simp [of3]

/-! ### The factor applied across the blocks -/

/-- A row of the spread factor against a vector of 12 blocks of 16: one term per block is left. -/
theorem spread_sum (C T : ℕ → ℕ → EReal) (r : ℕ) :
    (∑ k : Fin 192, spread C r k * T (k / 16) (k % 16)) = ∑ p : Fin 12, C p (r / 16) * T p (r % 16) := by
  rw [← (finProdFinEquiv (m := 12) (n := 16)).sum_comp (fun k : Fin 192 => spread C r k * T (k / 16) (k % 16)), Fintype.sum_prod_type]
  refine Finset.sum_congr rfl fun p _ => ?_
  have hv : ∀ i : Fin 16, ((finProdFinEquiv (m := 12) (n := 16) (p, i) : Fin 192) : ℕ) = i + 16 * p := fun i => rfl
  rw [Finset.sum_eq_single (⟨r % 16, Nat.mod_lt _ (by decide)⟩ : Fin 16)]
  · rw [hv]
    simp only [spread]
    rw [if_pos (by omega), show (r % 16 + 16 * (p : ℕ)) / 16 = p by omega, show (r % 16 + 16 * (p : ℕ)) % 16 = r % 16 by omega]
  · intro i _ hi
    rw [hv]
    simp only [spread]
    rw [if_neg (fun h => hi (Fin.ext (by have := i.isLt; simp only; omega))), zero_mul]
  · simp

theorem lokr_at (q : ℕ) (i0) (a : Fin 18) (o : Fin 16) (r : Fin 256) :
    (k0_pay72 (sM10.view.readCov (Val := Elt Ideal) (S10_12 c f0 f4 f5 h0 h4 h5)
        (Rect.unit (s := S12x480x256) ![0, q, 0] S12x16x256.size i0).toLoadRect) (v708 c f3 h3) : FVec Ideal S18x16x256 .f32) (ix3 a o r)
      = lokr (X0 c h0) (C0 c h3) (D0 c h4) (U0 c h5) (0 + a) (q + o) (0 + r) := by
  rw [v708_eq]
  pointwise [k0_pay72]
  refine congrArg (· * Ideal.ofBits .f32 1053609165#32) ?_
  refine Eq.trans (Finset.sum_congr rfl fun k _ => ?_)
    ((spread_sum (C0 c h3) (fun p o' => up (X0 c h0) (D0 c h4) (U0 c h5) p (q + o') r) (16 * a + o)).trans ?_)
  · refine congrArg₂ (· * ·) ?_ (load_t c f0 f4 f5 h0 h4 h5 q i0 _ _ _)
    change spread (C0 c h3) ((a : ℕ) * 16 + o) k = _
    rw [Nat.mul_comm]
  · rw [show (16 * (a : ℕ) + o) / 16 = a by omega, show (16 * (a : ℕ) + o) % 16 = o by omega,
      show (q + (o : ℕ)) = q + o by rfl]

theorem S12_30_of : View.PiecesOf (Val := Elt Ideal) (of3 (lokr (X0 c h0) (C0 c h3) (D0 c h4) (U0 c h5)) : S18x480x256.Idx → EReal)
    (S12_30 c f0 f3 f4 f5 h0 h3 h4 h5) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact block3 _ 0 464 0 inb_S18x480x256_S18x16x256_0_464_0 _ (lokr_at c f0 f3 f4 f5 h0 h3 h4 h5 464 inb_S12x480x256_S12x16x256_0_464_0)
  · exact block3 _ 0 448 0 inb_S18x480x256_S18x16x256_0_448_0 _ (lokr_at c f0 f3 f4 f5 h0 h3 h4 h5 448 inb_S12x480x256_S12x16x256_0_448_0)
  · exact block3 _ 0 432 0 inb_S18x480x256_S18x16x256_0_432_0 _ (lokr_at c f0 f3 f4 f5 h0 h3 h4 h5 432 inb_S12x480x256_S12x16x256_0_432_0)
  · exact block3 _ 0 416 0 inb_S18x480x256_S18x16x256_0_416_0 _ (lokr_at c f0 f3 f4 f5 h0 h3 h4 h5 416 inb_S12x480x256_S12x16x256_0_416_0)
  · exact block3 _ 0 400 0 inb_S18x480x256_S18x16x256_0_400_0 _ (lokr_at c f0 f3 f4 f5 h0 h3 h4 h5 400 inb_S12x480x256_S12x16x256_0_400_0)
  · exact block3 _ 0 384 0 inb_S18x480x256_S18x16x256_0_384_0 _ (lokr_at c f0 f3 f4 f5 h0 h3 h4 h5 384 inb_S12x480x256_S12x16x256_0_384_0)
  · exact block3 _ 0 368 0 inb_S18x480x256_S18x16x256_0_368_0 _ (lokr_at c f0 f3 f4 f5 h0 h3 h4 h5 368 inb_S12x480x256_S12x16x256_0_368_0)
  · exact block3 _ 0 352 0 inb_S18x480x256_S18x16x256_0_352_0 _ (lokr_at c f0 f3 f4 f5 h0 h3 h4 h5 352 inb_S12x480x256_S12x16x256_0_352_0)
  · exact block3 _ 0 336 0 inb_S18x480x256_S18x16x256_0_336_0 _ (lokr_at c f0 f3 f4 f5 h0 h3 h4 h5 336 inb_S12x480x256_S12x16x256_0_336_0)
  · exact block3 _ 0 320 0 inb_S18x480x256_S18x16x256_0_320_0 _ (lokr_at c f0 f3 f4 f5 h0 h3 h4 h5 320 inb_S12x480x256_S12x16x256_0_320_0)
  · exact block3 _ 0 304 0 inb_S18x480x256_S18x16x256_0_304_0 _ (lokr_at c f0 f3 f4 f5 h0 h3 h4 h5 304 inb_S12x480x256_S12x16x256_0_304_0)
  · exact block3 _ 0 288 0 inb_S18x480x256_S18x16x256_0_288_0 _ (lokr_at c f0 f3 f4 f5 h0 h3 h4 h5 288 inb_S12x480x256_S12x16x256_0_288_0)
  · exact block3 _ 0 272 0 inb_S18x480x256_S18x16x256_0_272_0 _ (lokr_at c f0 f3 f4 f5 h0 h3 h4 h5 272 inb_S12x480x256_S12x16x256_0_272_0)
  · exact block3 _ 0 256 0 inb_S18x480x256_S18x16x256_0_256_0 _ (lokr_at c f0 f3 f4 f5 h0 h3 h4 h5 256 inb_S12x480x256_S12x16x256_0_256_0)
  · exact block3 _ 0 240 0 inb_S18x480x256_S18x16x256_0_240_0 _ (lokr_at c f0 f3 f4 f5 h0 h3 h4 h5 240 inb_S12x480x256_S12x16x256_0_240_0)
  · exact block3 _ 0 224 0 inb_S18x480x256_S18x16x256_0_224_0 _ (lokr_at c f0 f3 f4 f5 h0 h3 h4 h5 224 inb_S12x480x256_S12x16x256_0_224_0)
  · exact block3 _ 0 208 0 inb_S18x480x256_S18x16x256_0_208_0 _ (lokr_at c f0 f3 f4 f5 h0 h3 h4 h5 208 inb_S12x480x256_S12x16x256_0_208_0)
  · exact block3 _ 0 192 0 inb_S18x480x256_S18x16x256_0_192_0 _ (lokr_at c f0 f3 f4 f5 h0 h3 h4 h5 192 inb_S12x480x256_S12x16x256_0_192_0)
  · exact block3 _ 0 176 0 inb_S18x480x256_S18x16x256_0_176_0 _ (lokr_at c f0 f3 f4 f5 h0 h3 h4 h5 176 inb_S12x480x256_S12x16x256_0_176_0)
  · exact block3 _ 0 160 0 inb_S18x480x256_S18x16x256_0_160_0 _ (lokr_at c f0 f3 f4 f5 h0 h3 h4 h5 160 inb_S12x480x256_S12x16x256_0_160_0)
  · exact block3 _ 0 144 0 inb_S18x480x256_S18x16x256_0_144_0 _ (lokr_at c f0 f3 f4 f5 h0 h3 h4 h5 144 inb_S12x480x256_S12x16x256_0_144_0)
  · exact block3 _ 0 128 0 inb_S18x480x256_S18x16x256_0_128_0 _ (lokr_at c f0 f3 f4 f5 h0 h3 h4 h5 128 inb_S12x480x256_S12x16x256_0_128_0)
  · exact block3 _ 0 112 0 inb_S18x480x256_S18x16x256_0_112_0 _ (lokr_at c f0 f3 f4 f5 h0 h3 h4 h5 112 inb_S12x480x256_S12x16x256_0_112_0)
  · exact block3 _ 0 96 0 inb_S18x480x256_S18x16x256_0_96_0 _ (lokr_at c f0 f3 f4 f5 h0 h3 h4 h5 96 inb_S12x480x256_S12x16x256_0_96_0)
  · exact block3 _ 0 80 0 inb_S18x480x256_S18x16x256_0_80_0 _ (lokr_at c f0 f3 f4 f5 h0 h3 h4 h5 80 inb_S12x480x256_S12x16x256_0_80_0)
  · exact block3 _ 0 64 0 inb_S18x480x256_S18x16x256_0_64_0 _ (lokr_at c f0 f3 f4 f5 h0 h3 h4 h5 64 inb_S12x480x256_S12x16x256_0_64_0)
  · exact block3 _ 0 48 0 inb_S18x480x256_S18x16x256_0_48_0 _ (lokr_at c f0 f3 f4 f5 h0 h3 h4 h5 48 inb_S12x480x256_S12x16x256_0_48_0)
  · exact block3 _ 0 32 0 inb_S18x480x256_S18x16x256_0_32_0 _ (lokr_at c f0 f3 f4 f5 h0 h3 h4 h5 32 inb_S12x480x256_S12x16x256_0_32_0)
  · exact block3 _ 0 16 0 inb_S18x480x256_S18x16x256_0_16_0 _ (lokr_at c f0 f3 f4 f5 h0 h3 h4 h5 16 inb_S12x480x256_S12x16x256_0_16_0)
  · exact block3 _ 0 0 0 inb_S18x480x256_S18x16x256_0_0_0 _ (lokr_at c f0 f3 f4 f5 h0 h3 h4 h5 0 inb_S12x480x256_S12x16x256_0_0_0)

/-- A load of some rows of one block of the adapter's term. -/
theorem load_u {m : ℕ} (a q : ℕ) (i0) (o : Fin m) (r : Fin 256) :
    (sM12.view.readCov (Val := Elt Ideal) (S12_30 c f0 f3 f4 f5 h0 h3 h4 h5)
      (Rect.unit (s := S18x480x256) ![a, q, 0] ![1, m, 256] i0).toLoadRect) (ix3 (0 : Fin 1) o r)
      = lokr (X0 c h0) (C0 c h3) (D0 c h4) (U0 c h5) a (q + o) r := by
  refine (congrFun (load_stored _ _ _ (S12_30_of c f0 f3 f4 f5 h0 h3 h4 h5) (View.cover_of_tiled _ ![18, 16, 256] (by rfl)) _) _).trans ?_
  simp [of3]

end

end Cert.KernelIdeal.Value

end

end
-- ==== Proof.ValueTile.lean ====
/-
  The blocks of the result: the product of the codes scaled by the weight's scales, the adapter's term beside it, and the
  tile of the result they make.
-/
module

public import proofs.«01_k».proof.Proof.ValueLora
public import Idealize.ShloMosaic.Lib.Ring

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

/-! ## Whether stored boxes cover a band of rows -/

section Cover

variable {Val : EltTy → Type} {e : EltTy} {l m n : ℕ}

/-- A unit-stride box holding row block `o .. o + 63` of batch `b`, 128 wide. -/
def holds (r : Rect ⟨3, ![l, m, n]⟩) (b o : ℕ) : Bool :=
  Nat.beq (r.stride 0) 1 && Nat.beq (r.stride 1) 1 && Nat.beq (r.stride 2) 1 && Nat.ble (r.off 0) b
    && Nat.ble (b + 1) (r.off 0 + r.size 0) && Nat.ble (r.off 1) o && Nat.ble (o + 64) (r.off 1 + r.size 1)
    && Nat.ble (r.off 2) 0 && Nat.ble 128 (r.off 2 + r.size 2)

/-- The stored boxes hold `t` row blocks of 64 from row `o` on, of both batches. -/
def band (L : List (View.Piece Val ⟨3, ![l, m, n]⟩ e)) (o : ℕ) : ℕ → Bool
  | 0 => true
  | t + 1 => L.any (fun p => holds p.1 0 (o + 64 * t)) && L.any (fun p => holds p.1 1 (o + 64 * t)) && band L o t

theorem band_any (L : List (View.Piece Val ⟨3, ![l, m, n]⟩ e)) (o : ℕ) : ∀ (t : ℕ), band L o t = true → ∀ b i, b < 2 → i < t →
    ∃ p ∈ L, holds p.1 b (o + 64 * i) = true
  | 0, _, _, _, _, hi => absurd hi (Nat.not_lt_zero _)
  | t + 1, h, b, i, hb, hi => by
    simp only [band, Bool.and_eq_true, List.any_eq_true] at h
    by_cases hit : i = t
    · subst hit
      obtain rfl | rfl : b = 0 ∨ b = 1 := by omega
      · exact h.1.1
      · exact h.1.2
    · exact band_any L o t h.2 b i hb (by omega)

theorem mem_of_holds (r : Rect ⟨3, ![l, m, n]⟩) (b o : ℕ) (h : holds r b o = true) (y : (⟨3, ![l, m, n]⟩ : Shape).Idx)
    (h0 : (y 0).val = b) (h1 : o ≤ (y 1).val) (h1' : (y 1).val < o + 64) (h2 : (y 2).val < 128) : y ∈ r.set := by
  simp only [holds, Bool.and_eq_true, Nat.beq_eq_true_eq, Nat.ble_eq] at h
  obtain ⟨⟨⟨⟨⟨⟨⟨⟨s0, s1⟩, s2⟩, a0⟩, b0⟩, a1⟩, b1⟩, a2⟩, b2⟩ := h
  replace s0 := Nat.eq_of_beq_eq_true s0
  replace s1 := Nat.eq_of_beq_eq_true s1
  replace s2 := Nat.eq_of_beq_eq_true s2
  rw [LoadRect.mem_set]
  refine Fin.forall_fin_succ.mpr ⟨⟨(y 0).val - r.off 0, ?_, ?_⟩, Fin.forall_fin_succ.mpr ⟨⟨(y 1).val - r.off 1, ?_, ?_⟩,
    Fin.forall_fin_one.mpr ⟨(y 2).val - r.off 2, ?_, ?_⟩⟩⟩
  · change _ < r.size 0
    omega
  · rw [s0]; omega
  · change _ < r.size 1
    omega
  · change _ = r.off 1 + r.stride 1 * _
    rw [s1]; change (y 1).val = _; omega
  · change _ < r.size 2
    omega
  · change _ = r.off 2 + r.stride 2 * _
    rw [s2]; change (y 2).val = _; omega

/-- So every index of the band lies in one of the boxes. -/
theorem cover_band (L : List (View.Piece Val ⟨3, ![l, m, n]⟩ e)) (o t : ℕ) (h : band L o t = true)
    (y : (⟨3, ![l, m, n]⟩ : Shape).Idx) (h0 : (y 0).val < 2) (h1 : o ≤ (y 1).val) (h1' : (y 1).val < o + 64 * t)
    (h2 : (y 2).val < 128) : ∃ p ∈ L, y ∈ p.1.set := by
  obtain ⟨p, hp, hh⟩ := band_any L o t h (y 0).val (((y 1).val - o) / 64) h0 (by omega)
  exact ⟨p, hp, mem_of_holds p.1 _ _ hh y rfl (by omega) (by omega) h2⟩

end Cover

/-! ## A tile -/

/-- A tile of 128 columns of the result: a block of the scaled product, transposed, times the tokens' scales, plus the
adapter's term. -/
def tile {n : ℕ} (β k : ℕ) (acc : FVec Ideal ⟨2, ![256, n]⟩ .f32) (hs : Shape.Slices ⟨2, ![256, n]⟩ ![β, k] S128x128)
    (u : FVec Ideal S128x256 .f32) (hu : S128x256.Slices ![0, β] S128x128) (sc : FVec Ideal S1x128 .f32) : FVec Ideal S1x128x128 .bf16 :=
  shapeCast S1x128x128 (truncf .bf16 (addf (mulf (transpose S128x128 [1, 0] (extractStridedSlice S128x128 ![β, k] acc hs)
    transposes_S128x128_p1_0_S128x128) (broadcastTo S128x128 sc broadcasts_S1x128_S128x128))
    (extractStridedSlice S128x128 ![0, β] u hu)) bitsLt_bf16_f32) shapeCasts_S128x128_S1x128x128

/-- The last, 64 columns wide. -/
def lastTile (β : ℕ) (acc : FVec Ideal S256x448 .f32) (hs : S256x448.Slices ![β, 384] S128x64)
    (u : FVec Ideal S64x256 .f32) (hu : S64x256.Slices ![0, β] S64x128) (sc : FVec Ideal S1x128 .f32) : FVec Ideal S1x64x128 .bf16 :=
  shapeCast S1x64x128 (truncf .bf16 (addf (mulf (transpose S64x128 [1, 0] (extractStridedSlice S128x64 ![β, 384] acc hs)
    transposes_S128x64_p1_0_S64x128) (broadcastTo S64x128 sc broadcasts_S1x128_S64x128))
    (extractStridedSlice S64x128 ![0, β] u hu)) bitsLt_bf16_f32) shapeCasts_S64x128_S1x64x128

section Tiles

variable (X : ℕ → ℕ → ℕ → EReal) (W : ℕ → ℕ → EReal) (ws : ℕ → EReal) (C Dn Up : ℕ → ℕ → EReal)

theorem tile_at (b β : ℕ) (hβ : β = 128 * b) (sc : FVec Ideal S1x128 .f32) (hsc : ∀ s : Fin 128, sc (ix2 0 s) = xs X b s)
    {n : ℕ} (q k N : ℕ) (hN : N = q + k) (acc : FVec Ideal ⟨2, ![256, n]⟩ .f32)
    (hacc : ∀ (r : Fin 256) (i : Fin n), acc (ix2 r i) = Math.acc X W ws r (q + i)) (u : FVec Ideal S128x256 .f32)
    (hu' : ∀ (d : Fin 128) (r : Fin 256), u (ix2 d r) = lokr X C Dn Up ((N + d) / 480) ((N + d) % 480) r) (hs) (hu)
    (z : Fin 1) (d : Fin 128) (s : Fin 128) :
    tile β k acc hs u hu sc (ix3 z d s) = out X W ws C Dn Up (b + z) (N + d) (0 + s) := by
  obtain rfl : z = 0 := Subsingleton.elim _ _
  subst hβ hN
  have hacc' : ∀ i, acc i = Math.acc X W ws (i 0).val (q + (i 1).val) := fun i => by
    conv_lhs => rw [eq_ix2 i]
    exact hacc _ _
  pointwise [tile]
  rw [hacc', hsc, hu', out, Nat.add_assoc q k]
  rfl

theorem lastTile_at (b β : ℕ) (hβ : β = 128 * b) (sc : FVec Ideal S1x128 .f32) (hsc : ∀ s : Fin 128, sc (ix2 0 s) = xs X b s)
    (q N : ℕ) (hN : N = q + 384) (acc : FVec Ideal S256x448 .f32)
    (hacc : ∀ (r : Fin 256) (i : Fin 448), acc (ix2 r i) = Math.acc X W ws r (q + i)) (u : FVec Ideal S64x256 .f32)
    (hu' : ∀ (d : Fin 64) (r : Fin 256), u (ix2 d r) = lokr X C Dn Up ((N + d) / 480) ((N + d) % 480) r) (hs) (hu)
    (z : Fin 1) (d : Fin 64) (s : Fin 128) :
    lastTile β acc hs u hu sc (ix3 z d s) = out X W ws C Dn Up (b + z) (N + d) (0 + s) := by
  obtain rfl : z = 0 := Subsingleton.elim _ _
  subst hβ hN
  pointwise [lastTile]
  rw [hacc, hsc, hu', out, Nat.add_assoc q 384]

end Tiles

section

variable (c : Dev nD) (f0 : BufAt (F := Ideal) c sM0) (f2 : BufAt (F := Ideal) c sM2) (f3 : BufAt (F := Ideal) c sM3)
  (f4 : BufAt (F := Ideal) c sM4) (f5 : BufAt (F := Ideal) c sM5) (h0 : BufAt (F := Ideal) c hM0) (h1 : BufAt (F := Ideal) c hM1)
  (h2 : BufAt (F := Ideal) c hM2) (h3 : BufAt (F := Ideal) c hM3) (h4 : BufAt (F := Ideal) c hM4) (h5 : BufAt (F := Ideal) c hM5)

/-- The weight's codes, transposed as the kernel reads them. -/
def W0 : ℕ → ℕ → EReal := at2 (View.read (Elt Ideal) hM1.view h1)

/-- The weight's scales. -/
def S0 : ℕ → EReal := at1 (dma0_3 c h2)

/-! ## The adapter's term of a tile -/

theorem term_one (N a q : ℕ) (hN : N = 480 * a + q) (hq : q + 128 ≤ 480) (i0) (d : Fin 128) (r : Fin 256) :
    (k0_pay110 (sM12.view.readCov (Val := Elt Ideal) (S12_30 c f0 f3 f4 f5 h0 h3 h4 h5)
      (Rect.unit (s := S18x480x256) ![a, q, 0] S1x128x256.size i0).toLoadRect) : FVec Ideal S128x256 .f32) (ix2 d r)
      = lokr (X0 c h0) (C0 c h3) (D0 c h4) (U0 c h5) ((N + d) / 480) ((N + d) % 480) r := by
  pointwise [k0_pay110]
  rw [show (N + (d : ℕ)) / 480 = a by omega, show (N + (d : ℕ)) % 480 = q + d by omega]
  exact load_u c f0 f3 f4 f5 h0 h3 h4 h5 a q i0 d r

theorem term_last (N a q : ℕ) (hN : N = 480 * a + q) (hq : q + 64 ≤ 480) (i0) (d : Fin 64) (r : Fin 256) :
    (k0_pay365 (sM12.view.readCov (Val := Elt Ideal) (S12_30 c f0 f3 f4 f5 h0 h3 h4 h5)
      (Rect.unit (s := S18x480x256) ![a, q, 0] S1x64x256.size i0).toLoadRect) : FVec Ideal S64x256 .f32) (ix2 d r)
      = lokr (X0 c h0) (C0 c h3) (D0 c h4) (U0 c h5) ((N + d) / 480) ((N + d) % 480) r := by
  pointwise [k0_pay365]
  rw [show (N + (d : ℕ)) / 480 = a by omega, show (N + (d : ℕ)) % 480 = q + d by omega]
  exact load_u c f0 f3 f4 f5 h0 h3 h4 h5 a q i0 d r

/-- A tile across two blocks of the adapter: 96 rows from the first, 32 from the second. -/
theorem term_96_32 (N a a' : ℕ) (hN : N = 480 * a + 384) (ha : a' = a + 1) (i0) (i1) (d : Fin 128) (r : Fin 256) :
    (k0_pay121 (sM12.view.readCov (Val := Elt Ideal) (S12_30 c f0 f3 f4 f5 h0 h3 h4 h5)
        (Rect.unit (s := S18x480x256) ![a, 384, 0] S1x96x256.size i0).toLoadRect)
      (sM12.view.readCov (Val := Elt Ideal) (S12_30 c f0 f3 f4 f5 h0 h3 h4 h5)
        (Rect.unit (s := S18x480x256) ![a', 0, 0] S1x32x256.size i1).toLoadRect) : FVec Ideal S128x256 .f32) (ix2 d r)
      = lokr (X0 c h0) (C0 c h3) (D0 c h4) (U0 c h5) ((N + d) / 480) ((N + d) % 480) r := by
  pointwise [k0_pay121]
  by_cases hd : (d : ℕ) < 96
  · rw [dif_pos hd, show (N + (d : ℕ)) / 480 = a by omega, show (N + (d : ℕ)) % 480 = 384 + d by omega]
    exact load_u c f0 f3 f4 f5 h0 h3 h4 h5 a 384 i0 _ r
  · rw [dif_neg hd, show (N + (d : ℕ)) / 480 = a' by omega, show (N + (d : ℕ)) % 480 = 0 + (d - 96) by omega]
    exact load_u c f0 f3 f4 f5 h0 h3 h4 h5 a' 0 i1 _ r

/-- A tile across two blocks of the adapter: 64 rows from the first, 64 from the second. -/
theorem term_64_64 (N a a' : ℕ) (hN : N = 480 * a + 416) (ha : a' = a + 1) (i0) (i1) (d : Fin 128) (r : Fin 256) :
    (k0_pay137 (sM12.view.readCov (Val := Elt Ideal) (S12_30 c f0 f3 f4 f5 h0 h3 h4 h5)
        (Rect.unit (s := S18x480x256) ![a, 416, 0] S1x64x256.size i0).toLoadRect)
      (sM12.view.readCov (Val := Elt Ideal) (S12_30 c f0 f3 f4 f5 h0 h3 h4 h5)
        (Rect.unit (s := S18x480x256) ![a', 0, 0] S1x64x256.size i1).toLoadRect) : FVec Ideal S128x256 .f32) (ix2 d r)
      = lokr (X0 c h0) (C0 c h3) (D0 c h4) (U0 c h5) ((N + d) / 480) ((N + d) % 480) r := by
  pointwise [k0_pay137]
  by_cases hd : (d : ℕ) < 64
  · rw [dif_pos hd, show (N + (d : ℕ)) / 480 = a by omega, show (N + (d : ℕ)) % 480 = 416 + d by omega]
    exact load_u c f0 f3 f4 f5 h0 h3 h4 h5 a 416 i0 _ r
  · rw [dif_neg hd, show (N + (d : ℕ)) / 480 = a' by omega, show (N + (d : ℕ)) % 480 = 0 + (d - 64) by omega]
    exact load_u c f0 f3 f4 f5 h0 h3 h4 h5 a' 0 i1 _ r

/-- A tile across two blocks of the adapter: 32 rows from the first, 96 from the second. -/
theorem term_32_96 (N a a' : ℕ) (hN : N = 480 * a + 448) (ha : a' = a + 1) (i0) (i1) (d : Fin 128) (r : Fin 256) :
    (k0_pay152 (sM12.view.readCov (Val := Elt Ideal) (S12_30 c f0 f3 f4 f5 h0 h3 h4 h5)
        (Rect.unit (s := S18x480x256) ![a, 448, 0] S1x32x256.size i0).toLoadRect)
      (sM12.view.readCov (Val := Elt Ideal) (S12_30 c f0 f3 f4 f5 h0 h3 h4 h5)
        (Rect.unit (s := S18x480x256) ![a', 0, 0] S1x96x256.size i1).toLoadRect) : FVec Ideal S128x256 .f32) (ix2 d r)
      = lokr (X0 c h0) (C0 c h3) (D0 c h4) (U0 c h5) ((N + d) / 480) ((N + d) % 480) r := by
  pointwise [k0_pay152]
  by_cases hd : (d : ℕ) < 32
  · rw [dif_pos hd, show (N + (d : ℕ)) / 480 = a by omega, show (N + (d : ℕ)) % 480 = 448 + d by omega]
    exact load_u c f0 f3 f4 f5 h0 h3 h4 h5 a 448 i0 _ r
  · rw [dif_neg hd, show (N + (d : ℕ)) / 480 = a' by omega, show (N + (d : ℕ)) % 480 = 0 + (d - 32) by omega]
    exact load_u c f0 f3 f4 f5 h0 h3 h4 h5 a' 0 i1 _ r

/-! ## The scaled product -/

theorem load_s (q m : ℕ) (i0) (i : Fin m) :
    (View.readAt (Elt Ideal) sM2.view (Rect.unit (s := S8640) ![q] ![m] i0).toLoadRect
      (View.write (Elt Ideal) sM2.view f2 (dma0_3 c h2) Finset.univ)) (ix1 i) = S0 c h2 (q + i) := by
  rw [load_filled]
  refine (at1_idx _ _).trans ?_
  simp [S0]

/-- The copies that fill the weight's buffer, block of columns by block of columns. -/
def wPieces : List (View.Piece (Elt Ideal) S2880x8640 .fp8e4m3) :=
  [⟨Rect.unit ![0, 8192] S2880x448.size inb_S2880x8640_S2880x448_0_8192, dma0_21 c h1⟩,
   ⟨Rect.unit ![0, 7680] S2880x512.size inb_S2880x8640_S2880x512_0_7680, dma0_20 c h1⟩,
   ⟨Rect.unit ![0, 7168] S2880x512.size inb_S2880x8640_S2880x512_0_7168, dma0_19 c h1⟩,
   ⟨Rect.unit ![0, 6656] S2880x512.size inb_S2880x8640_S2880x512_0_6656, dma0_18 c h1⟩,
   ⟨Rect.unit ![0, 6144] S2880x512.size inb_S2880x8640_S2880x512_0_6144, dma0_17 c h1⟩,
   ⟨Rect.unit ![0, 5632] S2880x512.size inb_S2880x8640_S2880x512_0_5632, dma0_16 c h1⟩,
   ⟨Rect.unit ![0, 5120] S2880x512.size inb_S2880x8640_S2880x512_0_5120, dma0_15 c h1⟩,
   ⟨Rect.unit ![0, 4608] S2880x512.size inb_S2880x8640_S2880x512_0_4608, dma0_14 c h1⟩,
   ⟨Rect.unit ![0, 4096] S2880x512.size inb_S2880x8640_S2880x512_0_4096, dma0_13 c h1⟩,
   ⟨Rect.unit ![0, 3584] S2880x512.size inb_S2880x8640_S2880x512_0_3584, dma0_12 c h1⟩,
   ⟨Rect.unit ![0, 3072] S2880x512.size inb_S2880x8640_S2880x512_0_3072, dma0_11 c h1⟩,
   ⟨Rect.unit ![0, 2560] S2880x512.size inb_S2880x8640_S2880x512_0_2560, dma0_10 c h1⟩,
   ⟨Rect.unit ![0, 2048] S2880x512.size inb_S2880x8640_S2880x512_0_2048, dma0_9 c h1⟩,
   ⟨Rect.unit ![0, 1536] S2880x512.size inb_S2880x8640_S2880x512_0_1536, dma0_8 c h1⟩,
   ⟨Rect.unit ![0, 1024] S2880x512.size inb_S2880x8640_S2880x512_0_1024, dma0_7 c h1⟩,
   ⟨Rect.unit ![0, 512] S2880x512.size inb_S2880x8640_S2880x512_0_512, dma0_6 c h1⟩,
   ⟨Rect.unit ![0, 0] S2880x512.size inb_S2880x8640_S2880x512_0_0, dma0_5 c h1⟩]

/-- A matrix from its own entries. -/
theorem of2_at2 {m n : ℕ} (v : (⟨2, ![m, n]⟩ : Shape).Idx → EReal) : of2 (at2 v) = v := funext fun i => (at2_idx v i).symm

theorem wPieces_of : View.PiecesOf (of2 (W0 c h1) : S2880x8640.Idx → EReal) (wPieces c h1) := by
  refine ⟨?_, ?_, ?_, ?_, ?_, ?_, ?_, ?_, ?_, ?_, ?_, ?_, ?_, ?_, ?_, ?_, ?_, trivial⟩ <;>
  exact fun x => (congrFun (of2_at2 (View.read (Elt Ideal) hM1.view h1)) _).symm

theorem load_w (q m : ℕ) (i0) (d : Fin 2880) (i : Fin m) :
    (sM1.view.readCov (wPieces c h1) (Rect.unit (s := S2880x8640) ![0, q] ![2880, m] i0).toLoadRect) (ix2 d i) = W0 c h1 d (q + i) := by
  refine (congrFun (load_stored _ _ _ (wPieces_of c h1) (View.cover_of_tiledBy _ ![2880, 64] (by sl_kernel_rfl)) _) _).trans ?_
  simp [of2]

theorem product_512 (q : ℕ) (i0) (i1) (r : Fin 256) (i : Fin 512) :
    (k0_pay109 (v1014 c f0 h0) (sM1.view.readCov (wPieces c h1) (Rect.unit (s := S2880x8640) ![0, q] S2880x512.size i0).toLoadRect)
      (View.readAt (Elt Ideal) sM2.view (Rect.unit (s := S8640) ![q] S512.size i1).toLoadRect
        (View.write (Elt Ideal) sM2.view f2 (dma0_3 c h2) Finset.univ)) : FVec Ideal S256x512 .f32) (ix2 r i)
      = Math.acc (X0 c h0) (W0 c h1) (S0 c h2) r (q + i) := by
  rw [v1014_eq]
  pointwise [k0_pay109]
  unfold Math.acc
  refine congrArg₂ (· * ·) (Finset.sum_congr rfl fun d _ => congrArg₂ (· * ·) rfl ?_) ?_
  · exact load_w c h1 q 512 i0 d i
  · exact load_s c f2 h2 q 512 i1 i

theorem product_448 (q : ℕ) (i0) (i1) (r : Fin 256) (i : Fin 448) :
    (k0_pay353 (v1014 c f0 h0) (sM1.view.readCov (wPieces c h1) (Rect.unit (s := S2880x8640) ![0, q] S2880x448.size i0).toLoadRect)
      (View.readAt (Elt Ideal) sM2.view (Rect.unit (s := S8640) ![q] S448.size i1).toLoadRect
        (View.write (Elt Ideal) sM2.view f2 (dma0_3 c h2) Finset.univ)) : FVec Ideal S256x448 .f32) (ix2 r i)
      = Math.acc (X0 c h0) (W0 c h1) (S0 c h2) r (q + i) := by
  rw [v1014_eq]
  pointwise [k0_pay353]
  unfold Math.acc
  refine congrArg₂ (· * ·) (Finset.sum_congr rfl fun d _ => congrArg₂ (· * ·) rfl ?_) ?_
  · exact load_w c h1 q 448 i0 d i
  · exact load_s c f2 h2 q 448 i1 i

/-- The kernel's result, transposed as it stores it. -/
def Y0 : S2x8640x128.Idx → EReal :=
  of3 (out (X0 c h0) (W0 c h1) (S0 c h2) (C0 c h3) (D0 c h4) (U0 c h5))

end

end Cert.KernelIdeal.Value

end

end
-- ==== Proof.ValueRows0.lean ====
/-
  The tiles of the result, first columns: each is a block of it.
-/
module

public import proofs.«01_k».proof.Proof.ValueTile

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

section

variable (c : Dev nD) (f0 : BufAt (F := Ideal) c sM0) (f2 : BufAt (F := Ideal) c sM2) (f3 : BufAt (F := Ideal) c sM3)
  (f4 : BufAt (F := Ideal) c sM4) (f5 : BufAt (F := Ideal) c sM5) (h0 : BufAt (F := Ideal) c hM0) (h1 : BufAt (F := Ideal) c hM1)
  (h2 : BufAt (F := Ideal) c hM2) (h3 : BufAt (F := Ideal) c hM3) (h4 : BufAt (F := Ideal) c hM4) (h5 : BufAt (F := Ideal) c hM5)

theorem product_0 (r : Fin 256) (i : Fin 512) :
    (v1020 c f0 f2 h0 h1 h2 : FVec Ideal S256x512 .f32) (ix2 r i) = Math.acc (X0 c h0) (W0 c h1) (S0 c h2) r (0 + i) :=
  product_512 c f0 f2 h0 h1 h2 0 inb_S2880x8640_S2880x512_0_0 inb_S8640_S512_0 r i

theorem rows_0 : View.PiecesOf (Y0 c h0 h1 h2 h3 h4 h5) (S8_8 c f0 f2 f3 f4 f5 h0 h1 h2 h3 h4 h5) := by
  refine ⟨?_, ?_, ?_, ?_, ?_, ?_, ?_, ?_, trivial⟩
  · exact block3 _ 1 384 0 inb_S2x8640x128_S1x128x128_1_384_0 _ (tile_at _ _ _ _ _ _ 1 128 rfl _ (v523_at c f0 h0) 0 384 384 rfl _ (product_0 c f0 f2 h0 h1 h2) _
      (term_96_32 c f0 f3 f4 f5 h0 h3 h4 h5 384 0 1 rfl rfl inb_S18x480x256_S1x96x256_0_384_0 inb_S18x480x256_S1x32x256_1_0_0) slices_S256x512_o128_384_S128x128 slices_S128x256_o0_128_S128x128)
  · exact block3 _ 0 384 0 inb_S2x8640x128_S1x128x128_0_384_0 _ (tile_at _ _ _ _ _ _ 0 0 rfl _ (v402_at c f0 h0) 0 384 384 rfl _ (product_0 c f0 f2 h0 h1 h2) _
      (term_96_32 c f0 f3 f4 f5 h0 h3 h4 h5 384 0 1 rfl rfl inb_S18x480x256_S1x96x256_0_384_0 inb_S18x480x256_S1x32x256_1_0_0) slices_S256x512_o0_384_S128x128 slices_S128x256_o0_0_S128x128)
  · exact block3 _ 1 256 0 inb_S2x8640x128_S1x128x128_1_256_0 _ (tile_at _ _ _ _ _ _ 1 128 rfl _ (v523_at c f0 h0) 0 256 256 rfl _ (product_0 c f0 f2 h0 h1 h2) _
      (term_one c f0 f3 f4 f5 h0 h3 h4 h5 256 0 256 rfl (by decide) inb_S18x480x256_S1x128x256_0_256_0) slices_S256x512_o128_256_S128x128 slices_S128x256_o0_128_S128x128)
  · exact block3 _ 0 256 0 inb_S2x8640x128_S1x128x128_0_256_0 _ (tile_at _ _ _ _ _ _ 0 0 rfl _ (v402_at c f0 h0) 0 256 256 rfl _ (product_0 c f0 f2 h0 h1 h2) _
      (term_one c f0 f3 f4 f5 h0 h3 h4 h5 256 0 256 rfl (by decide) inb_S18x480x256_S1x128x256_0_256_0) slices_S256x512_o0_256_S128x128 slices_S128x256_o0_0_S128x128)
  · exact block3 _ 1 128 0 inb_S2x8640x128_S1x128x128_1_128_0 _ (tile_at _ _ _ _ _ _ 1 128 rfl _ (v523_at c f0 h0) 0 128 128 rfl _ (product_0 c f0 f2 h0 h1 h2) _
      (term_one c f0 f3 f4 f5 h0 h3 h4 h5 128 0 128 rfl (by decide) inb_S18x480x256_S1x128x256_0_128_0) slices_S256x512_o128_128_S128x128 slices_S128x256_o0_128_S128x128)
  · exact block3 _ 0 128 0 inb_S2x8640x128_S1x128x128_0_128_0 _ (tile_at _ _ _ _ _ _ 0 0 rfl _ (v402_at c f0 h0) 0 128 128 rfl _ (product_0 c f0 f2 h0 h1 h2) _
      (term_one c f0 f3 f4 f5 h0 h3 h4 h5 128 0 128 rfl (by decide) inb_S18x480x256_S1x128x256_0_128_0) slices_S256x512_o0_128_S128x128 slices_S128x256_o0_0_S128x128)
  · exact block3 _ 1 0 0 inb_S2x8640x128_S1x128x128_1_0_0 _ (tile_at _ _ _ _ _ _ 1 128 rfl _ (v523_at c f0 h0) 0 0 0 rfl _ (product_0 c f0 f2 h0 h1 h2) _
      (term_one c f0 f3 f4 f5 h0 h3 h4 h5 0 0 0 rfl (by decide) inb_S18x480x256_S1x128x256_0_0_0) slices_S256x512_o128_0_S128x128 slices_S128x256_o0_128_S128x128)
  · exact block3 _ 0 0 0 inb_S2x8640x128_S1x128x128_0_0_0 _ (tile_at _ _ _ _ _ _ 0 0 rfl _ (v402_at c f0 h0) 0 0 0 rfl _ (product_0 c f0 f2 h0 h1 h2) _
      (term_one c f0 f3 f4 f5 h0 h3 h4 h5 0 0 0 rfl (by decide) inb_S18x480x256_S1x128x256_0_0_0) slices_S256x512_o0_0_S128x128 slices_S128x256_o0_0_S128x128)

theorem product_1 (r : Fin 256) (i : Fin 512) :
    (v1126 c f0 f2 h0 h1 h2 : FVec Ideal S256x512 .f32) (ix2 r i) = Math.acc (X0 c h0) (W0 c h1) (S0 c h2) r (512 + i) :=
  product_512 c f0 f2 h0 h1 h2 512 inb_S2880x8640_S2880x512_0_512 inb_S8640_S512_512 r i

theorem rows_1 (h : View.PiecesOf (Y0 c h0 h1 h2 h3 h4 h5) (S8_8 c f0 f2 f3 f4 f5 h0 h1 h2 h3 h4 h5)) :
    View.PiecesOf (Y0 c h0 h1 h2 h3 h4 h5) (S8_16 c f0 f2 f3 f4 f5 h0 h1 h2 h3 h4 h5) := by
  refine ⟨?_, ?_, ?_, ?_, ?_, ?_, ?_, ?_, h⟩
  · exact block3 _ 1 896 0 inb_S2x8640x128_S1x128x128_1_896_0 _ (tile_at _ _ _ _ _ _ 1 128 rfl _ (v523_at c f0 h0) 512 384 896 rfl _ (product_1 c f0 f2 h0 h1 h2) _
      (term_64_64 c f0 f3 f4 f5 h0 h3 h4 h5 896 1 2 rfl rfl inb_S18x480x256_S1x64x256_1_416_0 inb_S18x480x256_S1x64x256_2_0_0) slices_S256x512_o128_384_S128x128 slices_S128x256_o0_128_S128x128)
  · exact block3 _ 0 896 0 inb_S2x8640x128_S1x128x128_0_896_0 _ (tile_at _ _ _ _ _ _ 0 0 rfl _ (v402_at c f0 h0) 512 384 896 rfl _ (product_1 c f0 f2 h0 h1 h2) _
      (term_64_64 c f0 f3 f4 f5 h0 h3 h4 h5 896 1 2 rfl rfl inb_S18x480x256_S1x64x256_1_416_0 inb_S18x480x256_S1x64x256_2_0_0) slices_S256x512_o0_384_S128x128 slices_S128x256_o0_0_S128x128)
  · exact block3 _ 1 768 0 inb_S2x8640x128_S1x128x128_1_768_0 _ (tile_at _ _ _ _ _ _ 1 128 rfl _ (v523_at c f0 h0) 512 256 768 rfl _ (product_1 c f0 f2 h0 h1 h2) _
      (term_one c f0 f3 f4 f5 h0 h3 h4 h5 768 1 288 rfl (by decide) inb_S18x480x256_S1x128x256_1_288_0) slices_S256x512_o128_256_S128x128 slices_S128x256_o0_128_S128x128)
  · exact block3 _ 0 768 0 inb_S2x8640x128_S1x128x128_0_768_0 _ (tile_at _ _ _ _ _ _ 0 0 rfl _ (v402_at c f0 h0) 512 256 768 rfl _ (product_1 c f0 f2 h0 h1 h2) _
      (term_one c f0 f3 f4 f5 h0 h3 h4 h5 768 1 288 rfl (by decide) inb_S18x480x256_S1x128x256_1_288_0) slices_S256x512_o0_256_S128x128 slices_S128x256_o0_0_S128x128)
  · exact block3 _ 1 640 0 inb_S2x8640x128_S1x128x128_1_640_0 _ (tile_at _ _ _ _ _ _ 1 128 rfl _ (v523_at c f0 h0) 512 128 640 rfl _ (product_1 c f0 f2 h0 h1 h2) _
      (term_one c f0 f3 f4 f5 h0 h3 h4 h5 640 1 160 rfl (by decide) inb_S18x480x256_S1x128x256_1_160_0) slices_S256x512_o128_128_S128x128 slices_S128x256_o0_128_S128x128)
  · exact block3 _ 0 640 0 inb_S2x8640x128_S1x128x128_0_640_0 _ (tile_at _ _ _ _ _ _ 0 0 rfl _ (v402_at c f0 h0) 512 128 640 rfl _ (product_1 c f0 f2 h0 h1 h2) _
      (term_one c f0 f3 f4 f5 h0 h3 h4 h5 640 1 160 rfl (by decide) inb_S18x480x256_S1x128x256_1_160_0) slices_S256x512_o0_128_S128x128 slices_S128x256_o0_0_S128x128)
  · exact block3 _ 1 512 0 inb_S2x8640x128_S1x128x128_1_512_0 _ (tile_at _ _ _ _ _ _ 1 128 rfl _ (v523_at c f0 h0) 512 0 512 rfl _ (product_1 c f0 f2 h0 h1 h2) _
      (term_one c f0 f3 f4 f5 h0 h3 h4 h5 512 1 32 rfl (by decide) inb_S18x480x256_S1x128x256_1_32_0) slices_S256x512_o128_0_S128x128 slices_S128x256_o0_128_S128x128)
  · exact block3 _ 0 512 0 inb_S2x8640x128_S1x128x128_0_512_0 _ (tile_at _ _ _ _ _ _ 0 0 rfl _ (v402_at c f0 h0) 512 0 512 rfl _ (product_1 c f0 f2 h0 h1 h2) _
      (term_one c f0 f3 f4 f5 h0 h3 h4 h5 512 1 32 rfl (by decide) inb_S18x480x256_S1x128x256_1_32_0) slices_S256x512_o0_0_S128x128 slices_S128x256_o0_0_S128x128)

theorem product_2 (r : Fin 256) (i : Fin 512) :
    (v1232 c f0 f2 h0 h1 h2 : FVec Ideal S256x512 .f32) (ix2 r i) = Math.acc (X0 c h0) (W0 c h1) (S0 c h2) r (1024 + i) :=
  product_512 c f0 f2 h0 h1 h2 1024 inb_S2880x8640_S2880x512_0_1024 inb_S8640_S512_1024 r i

theorem rows_2 (h : View.PiecesOf (Y0 c h0 h1 h2 h3 h4 h5) (S8_16 c f0 f2 f3 f4 f5 h0 h1 h2 h3 h4 h5)) :
    View.PiecesOf (Y0 c h0 h1 h2 h3 h4 h5) (S8_24 c f0 f2 f3 f4 f5 h0 h1 h2 h3 h4 h5) := by
  refine ⟨?_, ?_, ?_, ?_, ?_, ?_, ?_, ?_, h⟩
  · exact block3 _ 1 1408 0 inb_S2x8640x128_S1x128x128_1_1408_0 _ (tile_at _ _ _ _ _ _ 1 128 rfl _ (v523_at c f0 h0) 1024 384 1408 rfl _ (product_2 c f0 f2 h0 h1 h2) _
      (term_32_96 c f0 f3 f4 f5 h0 h3 h4 h5 1408 2 3 rfl rfl inb_S18x480x256_S1x32x256_2_448_0 inb_S18x480x256_S1x96x256_3_0_0) slices_S256x512_o128_384_S128x128 slices_S128x256_o0_128_S128x128)
  · exact block3 _ 0 1408 0 inb_S2x8640x128_S1x128x128_0_1408_0 _ (tile_at _ _ _ _ _ _ 0 0 rfl _ (v402_at c f0 h0) 1024 384 1408 rfl _ (product_2 c f0 f2 h0 h1 h2) _
      (term_32_96 c f0 f3 f4 f5 h0 h3 h4 h5 1408 2 3 rfl rfl inb_S18x480x256_S1x32x256_2_448_0 inb_S18x480x256_S1x96x256_3_0_0) slices_S256x512_o0_384_S128x128 slices_S128x256_o0_0_S128x128)
  · exact block3 _ 1 1280 0 inb_S2x8640x128_S1x128x128_1_1280_0 _ (tile_at _ _ _ _ _ _ 1 128 rfl _ (v523_at c f0 h0) 1024 256 1280 rfl _ (product_2 c f0 f2 h0 h1 h2) _
      (term_one c f0 f3 f4 f5 h0 h3 h4 h5 1280 2 320 rfl (by decide) inb_S18x480x256_S1x128x256_2_320_0) slices_S256x512_o128_256_S128x128 slices_S128x256_o0_128_S128x128)
  · exact block3 _ 0 1280 0 inb_S2x8640x128_S1x128x128_0_1280_0 _ (tile_at _ _ _ _ _ _ 0 0 rfl _ (v402_at c f0 h0) 1024 256 1280 rfl _ (product_2 c f0 f2 h0 h1 h2) _
      (term_one c f0 f3 f4 f5 h0 h3 h4 h5 1280 2 320 rfl (by decide) inb_S18x480x256_S1x128x256_2_320_0) slices_S256x512_o0_256_S128x128 slices_S128x256_o0_0_S128x128)
  · exact block3 _ 1 1152 0 inb_S2x8640x128_S1x128x128_1_1152_0 _ (tile_at _ _ _ _ _ _ 1 128 rfl _ (v523_at c f0 h0) 1024 128 1152 rfl _ (product_2 c f0 f2 h0 h1 h2) _
      (term_one c f0 f3 f4 f5 h0 h3 h4 h5 1152 2 192 rfl (by decide) inb_S18x480x256_S1x128x256_2_192_0) slices_S256x512_o128_128_S128x128 slices_S128x256_o0_128_S128x128)
  · exact block3 _ 0 1152 0 inb_S2x8640x128_S1x128x128_0_1152_0 _ (tile_at _ _ _ _ _ _ 0 0 rfl _ (v402_at c f0 h0) 1024 128 1152 rfl _ (product_2 c f0 f2 h0 h1 h2) _
      (term_one c f0 f3 f4 f5 h0 h3 h4 h5 1152 2 192 rfl (by decide) inb_S18x480x256_S1x128x256_2_192_0) slices_S256x512_o0_128_S128x128 slices_S128x256_o0_0_S128x128)
  · exact block3 _ 1 1024 0 inb_S2x8640x128_S1x128x128_1_1024_0 _ (tile_at _ _ _ _ _ _ 1 128 rfl _ (v523_at c f0 h0) 1024 0 1024 rfl _ (product_2 c f0 f2 h0 h1 h2) _
      (term_one c f0 f3 f4 f5 h0 h3 h4 h5 1024 2 64 rfl (by decide) inb_S18x480x256_S1x128x256_2_64_0) slices_S256x512_o128_0_S128x128 slices_S128x256_o0_128_S128x128)
  · exact block3 _ 0 1024 0 inb_S2x8640x128_S1x128x128_0_1024_0 _ (tile_at _ _ _ _ _ _ 0 0 rfl _ (v402_at c f0 h0) 1024 0 1024 rfl _ (product_2 c f0 f2 h0 h1 h2) _
      (term_one c f0 f3 f4 f5 h0 h3 h4 h5 1024 2 64 rfl (by decide) inb_S18x480x256_S1x128x256_2_64_0) slices_S256x512_o0_0_S128x128 slices_S128x256_o0_0_S128x128)

theorem product_3 (r : Fin 256) (i : Fin 512) :
    (v1338 c f0 f2 h0 h1 h2 : FVec Ideal S256x512 .f32) (ix2 r i) = Math.acc (X0 c h0) (W0 c h1) (S0 c h2) r (1536 + i) :=
  product_512 c f0 f2 h0 h1 h2 1536 inb_S2880x8640_S2880x512_0_1536 inb_S8640_S512_1536 r i

theorem rows_3 (h : View.PiecesOf (Y0 c h0 h1 h2 h3 h4 h5) (S8_24 c f0 f2 f3 f4 f5 h0 h1 h2 h3 h4 h5)) :
    View.PiecesOf (Y0 c h0 h1 h2 h3 h4 h5) (S8_32 c f0 f2 f3 f4 f5 h0 h1 h2 h3 h4 h5) := by
  refine ⟨?_, ?_, ?_, ?_, ?_, ?_, ?_, ?_, h⟩
  · exact block3 _ 1 1920 0 inb_S2x8640x128_S1x128x128_1_1920_0 _ (tile_at _ _ _ _ _ _ 1 128 rfl _ (v523_at c f0 h0) 1536 384 1920 rfl _ (product_3 c f0 f2 h0 h1 h2) _
      (term_one c f0 f3 f4 f5 h0 h3 h4 h5 1920 4 0 rfl (by decide) inb_S18x480x256_S1x128x256_4_0_0) slices_S256x512_o128_384_S128x128 slices_S128x256_o0_128_S128x128)
  · exact block3 _ 0 1920 0 inb_S2x8640x128_S1x128x128_0_1920_0 _ (tile_at _ _ _ _ _ _ 0 0 rfl _ (v402_at c f0 h0) 1536 384 1920 rfl _ (product_3 c f0 f2 h0 h1 h2) _
      (term_one c f0 f3 f4 f5 h0 h3 h4 h5 1920 4 0 rfl (by decide) inb_S18x480x256_S1x128x256_4_0_0) slices_S256x512_o0_384_S128x128 slices_S128x256_o0_0_S128x128)
  · exact block3 _ 1 1792 0 inb_S2x8640x128_S1x128x128_1_1792_0 _ (tile_at _ _ _ _ _ _ 1 128 rfl _ (v523_at c f0 h0) 1536 256 1792 rfl _ (product_3 c f0 f2 h0 h1 h2) _
      (term_one c f0 f3 f4 f5 h0 h3 h4 h5 1792 3 352 rfl (by decide) inb_S18x480x256_S1x128x256_3_352_0) slices_S256x512_o128_256_S128x128 slices_S128x256_o0_128_S128x128)
  · exact block3 _ 0 1792 0 inb_S2x8640x128_S1x128x128_0_1792_0 _ (tile_at _ _ _ _ _ _ 0 0 rfl _ (v402_at c f0 h0) 1536 256 1792 rfl _ (product_3 c f0 f2 h0 h1 h2) _
      (term_one c f0 f3 f4 f5 h0 h3 h4 h5 1792 3 352 rfl (by decide) inb_S18x480x256_S1x128x256_3_352_0) slices_S256x512_o0_256_S128x128 slices_S128x256_o0_0_S128x128)
  · exact block3 _ 1 1664 0 inb_S2x8640x128_S1x128x128_1_1664_0 _ (tile_at _ _ _ _ _ _ 1 128 rfl _ (v523_at c f0 h0) 1536 128 1664 rfl _ (product_3 c f0 f2 h0 h1 h2) _
      (term_one c f0 f3 f4 f5 h0 h3 h4 h5 1664 3 224 rfl (by decide) inb_S18x480x256_S1x128x256_3_224_0) slices_S256x512_o128_128_S128x128 slices_S128x256_o0_128_S128x128)
  · exact block3 _ 0 1664 0 inb_S2x8640x128_S1x128x128_0_1664_0 _ (tile_at _ _ _ _ _ _ 0 0 rfl _ (v402_at c f0 h0) 1536 128 1664 rfl _ (product_3 c f0 f2 h0 h1 h2) _
      (term_one c f0 f3 f4 f5 h0 h3 h4 h5 1664 3 224 rfl (by decide) inb_S18x480x256_S1x128x256_3_224_0) slices_S256x512_o0_128_S128x128 slices_S128x256_o0_0_S128x128)
  · exact block3 _ 1 1536 0 inb_S2x8640x128_S1x128x128_1_1536_0 _ (tile_at _ _ _ _ _ _ 1 128 rfl _ (v523_at c f0 h0) 1536 0 1536 rfl _ (product_3 c f0 f2 h0 h1 h2) _
      (term_one c f0 f3 f4 f5 h0 h3 h4 h5 1536 3 96 rfl (by decide) inb_S18x480x256_S1x128x256_3_96_0) slices_S256x512_o128_0_S128x128 slices_S128x256_o0_128_S128x128)
  · exact block3 _ 0 1536 0 inb_S2x8640x128_S1x128x128_0_1536_0 _ (tile_at _ _ _ _ _ _ 0 0 rfl _ (v402_at c f0 h0) 1536 0 1536 rfl _ (product_3 c f0 f2 h0 h1 h2) _
      (term_one c f0 f3 f4 f5 h0 h3 h4 h5 1536 3 96 rfl (by decide) inb_S18x480x256_S1x128x256_3_96_0) slices_S256x512_o0_0_S128x128 slices_S128x256_o0_0_S128x128)

theorem product_4 (r : Fin 256) (i : Fin 512) :
    (v1441 c f0 f2 h0 h1 h2 : FVec Ideal S256x512 .f32) (ix2 r i) = Math.acc (X0 c h0) (W0 c h1) (S0 c h2) r (2048 + i) :=
  product_512 c f0 f2 h0 h1 h2 2048 inb_S2880x8640_S2880x512_0_2048 inb_S8640_S512_2048 r i

theorem rows_4 (h : View.PiecesOf (Y0 c h0 h1 h2 h3 h4 h5) (S8_32 c f0 f2 f3 f4 f5 h0 h1 h2 h3 h4 h5)) :
    View.PiecesOf (Y0 c h0 h1 h2 h3 h4 h5) (S8_40 c f0 f2 f3 f4 f5 h0 h1 h2 h3 h4 h5) := by
  refine ⟨?_, ?_, ?_, ?_, ?_, ?_, ?_, ?_, h⟩
  · exact block3 _ 1 2432 0 inb_S2x8640x128_S1x128x128_1_2432_0 _ (tile_at _ _ _ _ _ _ 1 128 rfl _ (v523_at c f0 h0) 2048 384 2432 rfl _ (product_4 c f0 f2 h0 h1 h2) _
      (term_one c f0 f3 f4 f5 h0 h3 h4 h5 2432 5 32 rfl (by decide) inb_S18x480x256_S1x128x256_5_32_0) slices_S256x512_o128_384_S128x128 slices_S128x256_o0_128_S128x128)
  · exact block3 _ 0 2432 0 inb_S2x8640x128_S1x128x128_0_2432_0 _ (tile_at _ _ _ _ _ _ 0 0 rfl _ (v402_at c f0 h0) 2048 384 2432 rfl _ (product_4 c f0 f2 h0 h1 h2) _
      (term_one c f0 f3 f4 f5 h0 h3 h4 h5 2432 5 32 rfl (by decide) inb_S18x480x256_S1x128x256_5_32_0) slices_S256x512_o0_384_S128x128 slices_S128x256_o0_0_S128x128)
  · exact block3 _ 1 2304 0 inb_S2x8640x128_S1x128x128_1_2304_0 _ (tile_at _ _ _ _ _ _ 1 128 rfl _ (v523_at c f0 h0) 2048 256 2304 rfl _ (product_4 c f0 f2 h0 h1 h2) _
      (term_96_32 c f0 f3 f4 f5 h0 h3 h4 h5 2304 4 5 rfl rfl inb_S18x480x256_S1x96x256_4_384_0 inb_S18x480x256_S1x32x256_5_0_0) slices_S256x512_o128_256_S128x128 slices_S128x256_o0_128_S128x128)
  · exact block3 _ 0 2304 0 inb_S2x8640x128_S1x128x128_0_2304_0 _ (tile_at _ _ _ _ _ _ 0 0 rfl _ (v402_at c f0 h0) 2048 256 2304 rfl _ (product_4 c f0 f2 h0 h1 h2) _
      (term_96_32 c f0 f3 f4 f5 h0 h3 h4 h5 2304 4 5 rfl rfl inb_S18x480x256_S1x96x256_4_384_0 inb_S18x480x256_S1x32x256_5_0_0) slices_S256x512_o0_256_S128x128 slices_S128x256_o0_0_S128x128)
  · exact block3 _ 1 2176 0 inb_S2x8640x128_S1x128x128_1_2176_0 _ (tile_at _ _ _ _ _ _ 1 128 rfl _ (v523_at c f0 h0) 2048 128 2176 rfl _ (product_4 c f0 f2 h0 h1 h2) _
      (term_one c f0 f3 f4 f5 h0 h3 h4 h5 2176 4 256 rfl (by decide) inb_S18x480x256_S1x128x256_4_256_0) slices_S256x512_o128_128_S128x128 slices_S128x256_o0_128_S128x128)
  · exact block3 _ 0 2176 0 inb_S2x8640x128_S1x128x128_0_2176_0 _ (tile_at _ _ _ _ _ _ 0 0 rfl _ (v402_at c f0 h0) 2048 128 2176 rfl _ (product_4 c f0 f2 h0 h1 h2) _
      (term_one c f0 f3 f4 f5 h0 h3 h4 h5 2176 4 256 rfl (by decide) inb_S18x480x256_S1x128x256_4_256_0) slices_S256x512_o0_128_S128x128 slices_S128x256_o0_0_S128x128)
  · exact block3 _ 1 2048 0 inb_S2x8640x128_S1x128x128_1_2048_0 _ (tile_at _ _ _ _ _ _ 1 128 rfl _ (v523_at c f0 h0) 2048 0 2048 rfl _ (product_4 c f0 f2 h0 h1 h2) _
      (term_one c f0 f3 f4 f5 h0 h3 h4 h5 2048 4 128 rfl (by decide) inb_S18x480x256_S1x128x256_4_128_0) slices_S256x512_o128_0_S128x128 slices_S128x256_o0_128_S128x128)
  · exact block3 _ 0 2048 0 inb_S2x8640x128_S1x128x128_0_2048_0 _ (tile_at _ _ _ _ _ _ 0 0 rfl _ (v402_at c f0 h0) 2048 0 2048 rfl _ (product_4 c f0 f2 h0 h1 h2) _
      (term_one c f0 f3 f4 f5 h0 h3 h4 h5 2048 4 128 rfl (by decide) inb_S18x480x256_S1x128x256_4_128_0) slices_S256x512_o0_0_S128x128 slices_S128x256_o0_0_S128x128)

theorem product_5 (r : Fin 256) (i : Fin 512) :
    (v1547 c f0 f2 h0 h1 h2 : FVec Ideal S256x512 .f32) (ix2 r i) = Math.acc (X0 c h0) (W0 c h1) (S0 c h2) r (2560 + i) :=
  product_512 c f0 f2 h0 h1 h2 2560 inb_S2880x8640_S2880x512_0_2560 inb_S8640_S512_2560 r i

theorem rows_5 (h : View.PiecesOf (Y0 c h0 h1 h2 h3 h4 h5) (S8_40 c f0 f2 f3 f4 f5 h0 h1 h2 h3 h4 h5)) :
    View.PiecesOf (Y0 c h0 h1 h2 h3 h4 h5) (S8_48 c f0 f2 f3 f4 f5 h0 h1 h2 h3 h4 h5) := by
  refine ⟨?_, ?_, ?_, ?_, ?_, ?_, ?_, ?_, h⟩
  · exact block3 _ 1 2944 0 inb_S2x8640x128_S1x128x128_1_2944_0 _ (tile_at _ _ _ _ _ _ 1 128 rfl _ (v523_at c f0 h0) 2560 384 2944 rfl _ (product_5 c f0 f2 h0 h1 h2) _
      (term_one c f0 f3 f4 f5 h0 h3 h4 h5 2944 6 64 rfl (by decide) inb_S18x480x256_S1x128x256_6_64_0) slices_S256x512_o128_384_S128x128 slices_S128x256_o0_128_S128x128)
  · exact block3 _ 0 2944 0 inb_S2x8640x128_S1x128x128_0_2944_0 _ (tile_at _ _ _ _ _ _ 0 0 rfl _ (v402_at c f0 h0) 2560 384 2944 rfl _ (product_5 c f0 f2 h0 h1 h2) _
      (term_one c f0 f3 f4 f5 h0 h3 h4 h5 2944 6 64 rfl (by decide) inb_S18x480x256_S1x128x256_6_64_0) slices_S256x512_o0_384_S128x128 slices_S128x256_o0_0_S128x128)
  · exact block3 _ 1 2816 0 inb_S2x8640x128_S1x128x128_1_2816_0 _ (tile_at _ _ _ _ _ _ 1 128 rfl _ (v523_at c f0 h0) 2560 256 2816 rfl _ (product_5 c f0 f2 h0 h1 h2) _
      (term_64_64 c f0 f3 f4 f5 h0 h3 h4 h5 2816 5 6 rfl rfl inb_S18x480x256_S1x64x256_5_416_0 inb_S18x480x256_S1x64x256_6_0_0) slices_S256x512_o128_256_S128x128 slices_S128x256_o0_128_S128x128)
  · exact block3 _ 0 2816 0 inb_S2x8640x128_S1x128x128_0_2816_0 _ (tile_at _ _ _ _ _ _ 0 0 rfl _ (v402_at c f0 h0) 2560 256 2816 rfl _ (product_5 c f0 f2 h0 h1 h2) _
      (term_64_64 c f0 f3 f4 f5 h0 h3 h4 h5 2816 5 6 rfl rfl inb_S18x480x256_S1x64x256_5_416_0 inb_S18x480x256_S1x64x256_6_0_0) slices_S256x512_o0_256_S128x128 slices_S128x256_o0_0_S128x128)
  · exact block3 _ 1 2688 0 inb_S2x8640x128_S1x128x128_1_2688_0 _ (tile_at _ _ _ _ _ _ 1 128 rfl _ (v523_at c f0 h0) 2560 128 2688 rfl _ (product_5 c f0 f2 h0 h1 h2) _
      (term_one c f0 f3 f4 f5 h0 h3 h4 h5 2688 5 288 rfl (by decide) inb_S18x480x256_S1x128x256_5_288_0) slices_S256x512_o128_128_S128x128 slices_S128x256_o0_128_S128x128)
  · exact block3 _ 0 2688 0 inb_S2x8640x128_S1x128x128_0_2688_0 _ (tile_at _ _ _ _ _ _ 0 0 rfl _ (v402_at c f0 h0) 2560 128 2688 rfl _ (product_5 c f0 f2 h0 h1 h2) _
      (term_one c f0 f3 f4 f5 h0 h3 h4 h5 2688 5 288 rfl (by decide) inb_S18x480x256_S1x128x256_5_288_0) slices_S256x512_o0_128_S128x128 slices_S128x256_o0_0_S128x128)
  · exact block3 _ 1 2560 0 inb_S2x8640x128_S1x128x128_1_2560_0 _ (tile_at _ _ _ _ _ _ 1 128 rfl _ (v523_at c f0 h0) 2560 0 2560 rfl _ (product_5 c f0 f2 h0 h1 h2) _
      (term_one c f0 f3 f4 f5 h0 h3 h4 h5 2560 5 160 rfl (by decide) inb_S18x480x256_S1x128x256_5_160_0) slices_S256x512_o128_0_S128x128 slices_S128x256_o0_128_S128x128)
  · exact block3 _ 0 2560 0 inb_S2x8640x128_S1x128x128_0_2560_0 _ (tile_at _ _ _ _ _ _ 0 0 rfl _ (v402_at c f0 h0) 2560 0 2560 rfl _ (product_5 c f0 f2 h0 h1 h2) _
      (term_one c f0 f3 f4 f5 h0 h3 h4 h5 2560 5 160 rfl (by decide) inb_S18x480x256_S1x128x256_5_160_0) slices_S256x512_o0_0_S128x128 slices_S128x256_o0_0_S128x128)

end

end Cert.KernelIdeal.Value

end

end
-- ==== Proof.ValueRows1.lean ====
/-
  The tiles of the result, middle columns: each is a block of it.
-/
module

public import proofs.«01_k».proof.Proof.ValueTile

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

section

variable (c : Dev nD) (f0 : BufAt (F := Ideal) c sM0) (f2 : BufAt (F := Ideal) c sM2) (f3 : BufAt (F := Ideal) c sM3)
  (f4 : BufAt (F := Ideal) c sM4) (f5 : BufAt (F := Ideal) c sM5) (h0 : BufAt (F := Ideal) c hM0) (h1 : BufAt (F := Ideal) c hM1)
  (h2 : BufAt (F := Ideal) c hM2) (h3 : BufAt (F := Ideal) c hM3) (h4 : BufAt (F := Ideal) c hM4) (h5 : BufAt (F := Ideal) c hM5)

theorem product_6 (r : Fin 256) (i : Fin 512) :
    (v1653 c f0 f2 h0 h1 h2 : FVec Ideal S256x512 .f32) (ix2 r i) = Math.acc (X0 c h0) (W0 c h1) (S0 c h2) r (3072 + i) :=
  product_512 c f0 f2 h0 h1 h2 3072 inb_S2880x8640_S2880x512_0_3072 inb_S8640_S512_3072 r i

theorem rows_6 (h : View.PiecesOf (Y0 c h0 h1 h2 h3 h4 h5) (S8_48 c f0 f2 f3 f4 f5 h0 h1 h2 h3 h4 h5)) :
    View.PiecesOf (Y0 c h0 h1 h2 h3 h4 h5) (S8_56 c f0 f2 f3 f4 f5 h0 h1 h2 h3 h4 h5) := by
  refine ⟨?_, ?_, ?_, ?_, ?_, ?_, ?_, ?_, h⟩
  · exact block3 _ 1 3456 0 inb_S2x8640x128_S1x128x128_1_3456_0 _ (tile_at _ _ _ _ _ _ 1 128 rfl _ (v523_at c f0 h0) 3072 384 3456 rfl _ (product_6 c f0 f2 h0 h1 h2) _
      (term_one c f0 f3 f4 f5 h0 h3 h4 h5 3456 7 96 rfl (by decide) inb_S18x480x256_S1x128x256_7_96_0) slices_S256x512_o128_384_S128x128 slices_S128x256_o0_128_S128x128)
  · exact block3 _ 0 3456 0 inb_S2x8640x128_S1x128x128_0_3456_0 _ (tile_at _ _ _ _ _ _ 0 0 rfl _ (v402_at c f0 h0) 3072 384 3456 rfl _ (product_6 c f0 f2 h0 h1 h2) _
      (term_one c f0 f3 f4 f5 h0 h3 h4 h5 3456 7 96 rfl (by decide) inb_S18x480x256_S1x128x256_7_96_0) slices_S256x512_o0_384_S128x128 slices_S128x256_o0_0_S128x128)
  · exact block3 _ 1 3328 0 inb_S2x8640x128_S1x128x128_1_3328_0 _ (tile_at _ _ _ _ _ _ 1 128 rfl _ (v523_at c f0 h0) 3072 256 3328 rfl _ (product_6 c f0 f2 h0 h1 h2) _
      (term_32_96 c f0 f3 f4 f5 h0 h3 h4 h5 3328 6 7 rfl rfl inb_S18x480x256_S1x32x256_6_448_0 inb_S18x480x256_S1x96x256_7_0_0) slices_S256x512_o128_256_S128x128 slices_S128x256_o0_128_S128x128)
  · exact block3 _ 0 3328 0 inb_S2x8640x128_S1x128x128_0_3328_0 _ (tile_at _ _ _ _ _ _ 0 0 rfl _ (v402_at c f0 h0) 3072 256 3328 rfl _ (product_6 c f0 f2 h0 h1 h2) _
      (term_32_96 c f0 f3 f4 f5 h0 h3 h4 h5 3328 6 7 rfl rfl inb_S18x480x256_S1x32x256_6_448_0 inb_S18x480x256_S1x96x256_7_0_0) slices_S256x512_o0_256_S128x128 slices_S128x256_o0_0_S128x128)
  · exact block3 _ 1 3200 0 inb_S2x8640x128_S1x128x128_1_3200_0 _ (tile_at _ _ _ _ _ _ 1 128 rfl _ (v523_at c f0 h0) 3072 128 3200 rfl _ (product_6 c f0 f2 h0 h1 h2) _
      (term_one c f0 f3 f4 f5 h0 h3 h4 h5 3200 6 320 rfl (by decide) inb_S18x480x256_S1x128x256_6_320_0) slices_S256x512_o128_128_S128x128 slices_S128x256_o0_128_S128x128)
  · exact block3 _ 0 3200 0 inb_S2x8640x128_S1x128x128_0_3200_0 _ (tile_at _ _ _ _ _ _ 0 0 rfl _ (v402_at c f0 h0) 3072 128 3200 rfl _ (product_6 c f0 f2 h0 h1 h2) _
      (term_one c f0 f3 f4 f5 h0 h3 h4 h5 3200 6 320 rfl (by decide) inb_S18x480x256_S1x128x256_6_320_0) slices_S256x512_o0_128_S128x128 slices_S128x256_o0_0_S128x128)
  · exact block3 _ 1 3072 0 inb_S2x8640x128_S1x128x128_1_3072_0 _ (tile_at _ _ _ _ _ _ 1 128 rfl _ (v523_at c f0 h0) 3072 0 3072 rfl _ (product_6 c f0 f2 h0 h1 h2) _
      (term_one c f0 f3 f4 f5 h0 h3 h4 h5 3072 6 192 rfl (by decide) inb_S18x480x256_S1x128x256_6_192_0) slices_S256x512_o128_0_S128x128 slices_S128x256_o0_128_S128x128)
  · exact block3 _ 0 3072 0 inb_S2x8640x128_S1x128x128_0_3072_0 _ (tile_at _ _ _ _ _ _ 0 0 rfl _ (v402_at c f0 h0) 3072 0 3072 rfl _ (product_6 c f0 f2 h0 h1 h2) _
      (term_one c f0 f3 f4 f5 h0 h3 h4 h5 3072 6 192 rfl (by decide) inb_S18x480x256_S1x128x256_6_192_0) slices_S256x512_o0_0_S128x128 slices_S128x256_o0_0_S128x128)

theorem product_7 (r : Fin 256) (i : Fin 512) :
    (v1759 c f0 f2 h0 h1 h2 : FVec Ideal S256x512 .f32) (ix2 r i) = Math.acc (X0 c h0) (W0 c h1) (S0 c h2) r (3584 + i) :=
  product_512 c f0 f2 h0 h1 h2 3584 inb_S2880x8640_S2880x512_0_3584 inb_S8640_S512_3584 r i

theorem rows_7 (h : View.PiecesOf (Y0 c h0 h1 h2 h3 h4 h5) (S8_56 c f0 f2 f3 f4 f5 h0 h1 h2 h3 h4 h5)) :
    View.PiecesOf (Y0 c h0 h1 h2 h3 h4 h5) (S8_64 c f0 f2 f3 f4 f5 h0 h1 h2 h3 h4 h5) := by
  refine ⟨?_, ?_, ?_, ?_, ?_, ?_, ?_, ?_, h⟩
  · exact block3 _ 1 3968 0 inb_S2x8640x128_S1x128x128_1_3968_0 _ (tile_at _ _ _ _ _ _ 1 128 rfl _ (v523_at c f0 h0) 3584 384 3968 rfl _ (product_7 c f0 f2 h0 h1 h2) _
      (term_one c f0 f3 f4 f5 h0 h3 h4 h5 3968 8 128 rfl (by decide) inb_S18x480x256_S1x128x256_8_128_0) slices_S256x512_o128_384_S128x128 slices_S128x256_o0_128_S128x128)
  · exact block3 _ 0 3968 0 inb_S2x8640x128_S1x128x128_0_3968_0 _ (tile_at _ _ _ _ _ _ 0 0 rfl _ (v402_at c f0 h0) 3584 384 3968 rfl _ (product_7 c f0 f2 h0 h1 h2) _
      (term_one c f0 f3 f4 f5 h0 h3 h4 h5 3968 8 128 rfl (by decide) inb_S18x480x256_S1x128x256_8_128_0) slices_S256x512_o0_384_S128x128 slices_S128x256_o0_0_S128x128)
  · exact block3 _ 1 3840 0 inb_S2x8640x128_S1x128x128_1_3840_0 _ (tile_at _ _ _ _ _ _ 1 128 rfl _ (v523_at c f0 h0) 3584 256 3840 rfl _ (product_7 c f0 f2 h0 h1 h2) _
      (term_one c f0 f3 f4 f5 h0 h3 h4 h5 3840 8 0 rfl (by decide) inb_S18x480x256_S1x128x256_8_0_0) slices_S256x512_o128_256_S128x128 slices_S128x256_o0_128_S128x128)
  · exact block3 _ 0 3840 0 inb_S2x8640x128_S1x128x128_0_3840_0 _ (tile_at _ _ _ _ _ _ 0 0 rfl _ (v402_at c f0 h0) 3584 256 3840 rfl _ (product_7 c f0 f2 h0 h1 h2) _
      (term_one c f0 f3 f4 f5 h0 h3 h4 h5 3840 8 0 rfl (by decide) inb_S18x480x256_S1x128x256_8_0_0) slices_S256x512_o0_256_S128x128 slices_S128x256_o0_0_S128x128)
  · exact block3 _ 1 3712 0 inb_S2x8640x128_S1x128x128_1_3712_0 _ (tile_at _ _ _ _ _ _ 1 128 rfl _ (v523_at c f0 h0) 3584 128 3712 rfl _ (product_7 c f0 f2 h0 h1 h2) _
      (term_one c f0 f3 f4 f5 h0 h3 h4 h5 3712 7 352 rfl (by decide) inb_S18x480x256_S1x128x256_7_352_0) slices_S256x512_o128_128_S128x128 slices_S128x256_o0_128_S128x128)
  · exact block3 _ 0 3712 0 inb_S2x8640x128_S1x128x128_0_3712_0 _ (tile_at _ _ _ _ _ _ 0 0 rfl _ (v402_at c f0 h0) 3584 128 3712 rfl _ (product_7 c f0 f2 h0 h1 h2) _
      (term_one c f0 f3 f4 f5 h0 h3 h4 h5 3712 7 352 rfl (by decide) inb_S18x480x256_S1x128x256_7_352_0) slices_S256x512_o0_128_S128x128 slices_S128x256_o0_0_S128x128)
  · exact block3 _ 1 3584 0 inb_S2x8640x128_S1x128x128_1_3584_0 _ (tile_at _ _ _ _ _ _ 1 128 rfl _ (v523_at c f0 h0) 3584 0 3584 rfl _ (product_7 c f0 f2 h0 h1 h2) _
      (term_one c f0 f3 f4 f5 h0 h3 h4 h5 3584 7 224 rfl (by decide) inb_S18x480x256_S1x128x256_7_224_0) slices_S256x512_o128_0_S128x128 slices_S128x256_o0_128_S128x128)
  · exact block3 _ 0 3584 0 inb_S2x8640x128_S1x128x128_0_3584_0 _ (tile_at _ _ _ _ _ _ 0 0 rfl _ (v402_at c f0 h0) 3584 0 3584 rfl _ (product_7 c f0 f2 h0 h1 h2) _
      (term_one c f0 f3 f4 f5 h0 h3 h4 h5 3584 7 224 rfl (by decide) inb_S18x480x256_S1x128x256_7_224_0) slices_S256x512_o0_0_S128x128 slices_S128x256_o0_0_S128x128)

theorem product_8 (r : Fin 256) (i : Fin 512) :
    (v1862 c f0 f2 h0 h1 h2 : FVec Ideal S256x512 .f32) (ix2 r i) = Math.acc (X0 c h0) (W0 c h1) (S0 c h2) r (4096 + i) :=
  product_512 c f0 f2 h0 h1 h2 4096 inb_S2880x8640_S2880x512_0_4096 inb_S8640_S512_4096 r i

theorem rows_8 (h : View.PiecesOf (Y0 c h0 h1 h2 h3 h4 h5) (S8_64 c f0 f2 f3 f4 f5 h0 h1 h2 h3 h4 h5)) :
    View.PiecesOf (Y0 c h0 h1 h2 h3 h4 h5) (S8_72 c f0 f2 f3 f4 f5 h0 h1 h2 h3 h4 h5) := by
  refine ⟨?_, ?_, ?_, ?_, ?_, ?_, ?_, ?_, h⟩
  · exact block3 _ 1 4480 0 inb_S2x8640x128_S1x128x128_1_4480_0 _ (tile_at _ _ _ _ _ _ 1 128 rfl _ (v523_at c f0 h0) 4096 384 4480 rfl _ (product_8 c f0 f2 h0 h1 h2) _
      (term_one c f0 f3 f4 f5 h0 h3 h4 h5 4480 9 160 rfl (by decide) inb_S18x480x256_S1x128x256_9_160_0) slices_S256x512_o128_384_S128x128 slices_S128x256_o0_128_S128x128)
  · exact block3 _ 0 4480 0 inb_S2x8640x128_S1x128x128_0_4480_0 _ (tile_at _ _ _ _ _ _ 0 0 rfl _ (v402_at c f0 h0) 4096 384 4480 rfl _ (product_8 c f0 f2 h0 h1 h2) _
      (term_one c f0 f3 f4 f5 h0 h3 h4 h5 4480 9 160 rfl (by decide) inb_S18x480x256_S1x128x256_9_160_0) slices_S256x512_o0_384_S128x128 slices_S128x256_o0_0_S128x128)
  · exact block3 _ 1 4352 0 inb_S2x8640x128_S1x128x128_1_4352_0 _ (tile_at _ _ _ _ _ _ 1 128 rfl _ (v523_at c f0 h0) 4096 256 4352 rfl _ (product_8 c f0 f2 h0 h1 h2) _
      (term_one c f0 f3 f4 f5 h0 h3 h4 h5 4352 9 32 rfl (by decide) inb_S18x480x256_S1x128x256_9_32_0) slices_S256x512_o128_256_S128x128 slices_S128x256_o0_128_S128x128)
  · exact block3 _ 0 4352 0 inb_S2x8640x128_S1x128x128_0_4352_0 _ (tile_at _ _ _ _ _ _ 0 0 rfl _ (v402_at c f0 h0) 4096 256 4352 rfl _ (product_8 c f0 f2 h0 h1 h2) _
      (term_one c f0 f3 f4 f5 h0 h3 h4 h5 4352 9 32 rfl (by decide) inb_S18x480x256_S1x128x256_9_32_0) slices_S256x512_o0_256_S128x128 slices_S128x256_o0_0_S128x128)
  · exact block3 _ 1 4224 0 inb_S2x8640x128_S1x128x128_1_4224_0 _ (tile_at _ _ _ _ _ _ 1 128 rfl _ (v523_at c f0 h0) 4096 128 4224 rfl _ (product_8 c f0 f2 h0 h1 h2) _
      (term_96_32 c f0 f3 f4 f5 h0 h3 h4 h5 4224 8 9 rfl rfl inb_S18x480x256_S1x96x256_8_384_0 inb_S18x480x256_S1x32x256_9_0_0) slices_S256x512_o128_128_S128x128 slices_S128x256_o0_128_S128x128)
  · exact block3 _ 0 4224 0 inb_S2x8640x128_S1x128x128_0_4224_0 _ (tile_at _ _ _ _ _ _ 0 0 rfl _ (v402_at c f0 h0) 4096 128 4224 rfl _ (product_8 c f0 f2 h0 h1 h2) _
      (term_96_32 c f0 f3 f4 f5 h0 h3 h4 h5 4224 8 9 rfl rfl inb_S18x480x256_S1x96x256_8_384_0 inb_S18x480x256_S1x32x256_9_0_0) slices_S256x512_o0_128_S128x128 slices_S128x256_o0_0_S128x128)
  · exact block3 _ 1 4096 0 inb_S2x8640x128_S1x128x128_1_4096_0 _ (tile_at _ _ _ _ _ _ 1 128 rfl _ (v523_at c f0 h0) 4096 0 4096 rfl _ (product_8 c f0 f2 h0 h1 h2) _
      (term_one c f0 f3 f4 f5 h0 h3 h4 h5 4096 8 256 rfl (by decide) inb_S18x480x256_S1x128x256_8_256_0) slices_S256x512_o128_0_S128x128 slices_S128x256_o0_128_S128x128)
  · exact block3 _ 0 4096 0 inb_S2x8640x128_S1x128x128_0_4096_0 _ (tile_at _ _ _ _ _ _ 0 0 rfl _ (v402_at c f0 h0) 4096 0 4096 rfl _ (product_8 c f0 f2 h0 h1 h2) _
      (term_one c f0 f3 f4 f5 h0 h3 h4 h5 4096 8 256 rfl (by decide) inb_S18x480x256_S1x128x256_8_256_0) slices_S256x512_o0_0_S128x128 slices_S128x256_o0_0_S128x128)

theorem product_9 (r : Fin 256) (i : Fin 512) :
    (v1968 c f0 f2 h0 h1 h2 : FVec Ideal S256x512 .f32) (ix2 r i) = Math.acc (X0 c h0) (W0 c h1) (S0 c h2) r (4608 + i) :=
  product_512 c f0 f2 h0 h1 h2 4608 inb_S2880x8640_S2880x512_0_4608 inb_S8640_S512_4608 r i

theorem rows_9 (h : View.PiecesOf (Y0 c h0 h1 h2 h3 h4 h5) (S8_72 c f0 f2 f3 f4 f5 h0 h1 h2 h3 h4 h5)) :
    View.PiecesOf (Y0 c h0 h1 h2 h3 h4 h5) (S8_80 c f0 f2 f3 f4 f5 h0 h1 h2 h3 h4 h5) := by
  refine ⟨?_, ?_, ?_, ?_, ?_, ?_, ?_, ?_, h⟩
  · exact block3 _ 1 4992 0 inb_S2x8640x128_S1x128x128_1_4992_0 _ (tile_at _ _ _ _ _ _ 1 128 rfl _ (v523_at c f0 h0) 4608 384 4992 rfl _ (product_9 c f0 f2 h0 h1 h2) _
      (term_one c f0 f3 f4 f5 h0 h3 h4 h5 4992 10 192 rfl (by decide) inb_S18x480x256_S1x128x256_10_192_0) slices_S256x512_o128_384_S128x128 slices_S128x256_o0_128_S128x128)
  · exact block3 _ 0 4992 0 inb_S2x8640x128_S1x128x128_0_4992_0 _ (tile_at _ _ _ _ _ _ 0 0 rfl _ (v402_at c f0 h0) 4608 384 4992 rfl _ (product_9 c f0 f2 h0 h1 h2) _
      (term_one c f0 f3 f4 f5 h0 h3 h4 h5 4992 10 192 rfl (by decide) inb_S18x480x256_S1x128x256_10_192_0) slices_S256x512_o0_384_S128x128 slices_S128x256_o0_0_S128x128)
  · exact block3 _ 1 4864 0 inb_S2x8640x128_S1x128x128_1_4864_0 _ (tile_at _ _ _ _ _ _ 1 128 rfl _ (v523_at c f0 h0) 4608 256 4864 rfl _ (product_9 c f0 f2 h0 h1 h2) _
      (term_one c f0 f3 f4 f5 h0 h3 h4 h5 4864 10 64 rfl (by decide) inb_S18x480x256_S1x128x256_10_64_0) slices_S256x512_o128_256_S128x128 slices_S128x256_o0_128_S128x128)
  · exact block3 _ 0 4864 0 inb_S2x8640x128_S1x128x128_0_4864_0 _ (tile_at _ _ _ _ _ _ 0 0 rfl _ (v402_at c f0 h0) 4608 256 4864 rfl _ (product_9 c f0 f2 h0 h1 h2) _
      (term_one c f0 f3 f4 f5 h0 h3 h4 h5 4864 10 64 rfl (by decide) inb_S18x480x256_S1x128x256_10_64_0) slices_S256x512_o0_256_S128x128 slices_S128x256_o0_0_S128x128)
  · exact block3 _ 1 4736 0 inb_S2x8640x128_S1x128x128_1_4736_0 _ (tile_at _ _ _ _ _ _ 1 128 rfl _ (v523_at c f0 h0) 4608 128 4736 rfl _ (product_9 c f0 f2 h0 h1 h2) _
      (term_64_64 c f0 f3 f4 f5 h0 h3 h4 h5 4736 9 10 rfl rfl inb_S18x480x256_S1x64x256_9_416_0 inb_S18x480x256_S1x64x256_10_0_0) slices_S256x512_o128_128_S128x128 slices_S128x256_o0_128_S128x128)
  · exact block3 _ 0 4736 0 inb_S2x8640x128_S1x128x128_0_4736_0 _ (tile_at _ _ _ _ _ _ 0 0 rfl _ (v402_at c f0 h0) 4608 128 4736 rfl _ (product_9 c f0 f2 h0 h1 h2) _
      (term_64_64 c f0 f3 f4 f5 h0 h3 h4 h5 4736 9 10 rfl rfl inb_S18x480x256_S1x64x256_9_416_0 inb_S18x480x256_S1x64x256_10_0_0) slices_S256x512_o0_128_S128x128 slices_S128x256_o0_0_S128x128)
  · exact block3 _ 1 4608 0 inb_S2x8640x128_S1x128x128_1_4608_0 _ (tile_at _ _ _ _ _ _ 1 128 rfl _ (v523_at c f0 h0) 4608 0 4608 rfl _ (product_9 c f0 f2 h0 h1 h2) _
      (term_one c f0 f3 f4 f5 h0 h3 h4 h5 4608 9 288 rfl (by decide) inb_S18x480x256_S1x128x256_9_288_0) slices_S256x512_o128_0_S128x128 slices_S128x256_o0_128_S128x128)
  · exact block3 _ 0 4608 0 inb_S2x8640x128_S1x128x128_0_4608_0 _ (tile_at _ _ _ _ _ _ 0 0 rfl _ (v402_at c f0 h0) 4608 0 4608 rfl _ (product_9 c f0 f2 h0 h1 h2) _
      (term_one c f0 f3 f4 f5 h0 h3 h4 h5 4608 9 288 rfl (by decide) inb_S18x480x256_S1x128x256_9_288_0) slices_S256x512_o0_0_S128x128 slices_S128x256_o0_0_S128x128)

theorem product_10 (r : Fin 256) (i : Fin 512) :
    (v2074 c f0 f2 h0 h1 h2 : FVec Ideal S256x512 .f32) (ix2 r i) = Math.acc (X0 c h0) (W0 c h1) (S0 c h2) r (5120 + i) :=
  product_512 c f0 f2 h0 h1 h2 5120 inb_S2880x8640_S2880x512_0_5120 inb_S8640_S512_5120 r i

theorem rows_10 (h : View.PiecesOf (Y0 c h0 h1 h2 h3 h4 h5) (S8_80 c f0 f2 f3 f4 f5 h0 h1 h2 h3 h4 h5)) :
    View.PiecesOf (Y0 c h0 h1 h2 h3 h4 h5) (S8_88 c f0 f2 f3 f4 f5 h0 h1 h2 h3 h4 h5) := by
  refine ⟨?_, ?_, ?_, ?_, ?_, ?_, ?_, ?_, h⟩
  · exact block3 _ 1 5504 0 inb_S2x8640x128_S1x128x128_1_5504_0 _ (tile_at _ _ _ _ _ _ 1 128 rfl _ (v523_at c f0 h0) 5120 384 5504 rfl _ (product_10 c f0 f2 h0 h1 h2) _
      (term_one c f0 f3 f4 f5 h0 h3 h4 h5 5504 11 224 rfl (by decide) inb_S18x480x256_S1x128x256_11_224_0) slices_S256x512_o128_384_S128x128 slices_S128x256_o0_128_S128x128)
  · exact block3 _ 0 5504 0 inb_S2x8640x128_S1x128x128_0_5504_0 _ (tile_at _ _ _ _ _ _ 0 0 rfl _ (v402_at c f0 h0) 5120 384 5504 rfl _ (product_10 c f0 f2 h0 h1 h2) _
      (term_one c f0 f3 f4 f5 h0 h3 h4 h5 5504 11 224 rfl (by decide) inb_S18x480x256_S1x128x256_11_224_0) slices_S256x512_o0_384_S128x128 slices_S128x256_o0_0_S128x128)
  · exact block3 _ 1 5376 0 inb_S2x8640x128_S1x128x128_1_5376_0 _ (tile_at _ _ _ _ _ _ 1 128 rfl _ (v523_at c f0 h0) 5120 256 5376 rfl _ (product_10 c f0 f2 h0 h1 h2) _
      (term_one c f0 f3 f4 f5 h0 h3 h4 h5 5376 11 96 rfl (by decide) inb_S18x480x256_S1x128x256_11_96_0) slices_S256x512_o128_256_S128x128 slices_S128x256_o0_128_S128x128)
  · exact block3 _ 0 5376 0 inb_S2x8640x128_S1x128x128_0_5376_0 _ (tile_at _ _ _ _ _ _ 0 0 rfl _ (v402_at c f0 h0) 5120 256 5376 rfl _ (product_10 c f0 f2 h0 h1 h2) _
      (term_one c f0 f3 f4 f5 h0 h3 h4 h5 5376 11 96 rfl (by decide) inb_S18x480x256_S1x128x256_11_96_0) slices_S256x512_o0_256_S128x128 slices_S128x256_o0_0_S128x128)
  · exact block3 _ 1 5248 0 inb_S2x8640x128_S1x128x128_1_5248_0 _ (tile_at _ _ _ _ _ _ 1 128 rfl _ (v523_at c f0 h0) 5120 128 5248 rfl _ (product_10 c f0 f2 h0 h1 h2) _
      (term_32_96 c f0 f3 f4 f5 h0 h3 h4 h5 5248 10 11 rfl rfl inb_S18x480x256_S1x32x256_10_448_0 inb_S18x480x256_S1x96x256_11_0_0) slices_S256x512_o128_128_S128x128 slices_S128x256_o0_128_S128x128)
  · exact block3 _ 0 5248 0 inb_S2x8640x128_S1x128x128_0_5248_0 _ (tile_at _ _ _ _ _ _ 0 0 rfl _ (v402_at c f0 h0) 5120 128 5248 rfl _ (product_10 c f0 f2 h0 h1 h2) _
      (term_32_96 c f0 f3 f4 f5 h0 h3 h4 h5 5248 10 11 rfl rfl inb_S18x480x256_S1x32x256_10_448_0 inb_S18x480x256_S1x96x256_11_0_0) slices_S256x512_o0_128_S128x128 slices_S128x256_o0_0_S128x128)
  · exact block3 _ 1 5120 0 inb_S2x8640x128_S1x128x128_1_5120_0 _ (tile_at _ _ _ _ _ _ 1 128 rfl _ (v523_at c f0 h0) 5120 0 5120 rfl _ (product_10 c f0 f2 h0 h1 h2) _
      (term_one c f0 f3 f4 f5 h0 h3 h4 h5 5120 10 320 rfl (by decide) inb_S18x480x256_S1x128x256_10_320_0) slices_S256x512_o128_0_S128x128 slices_S128x256_o0_128_S128x128)
  · exact block3 _ 0 5120 0 inb_S2x8640x128_S1x128x128_0_5120_0 _ (tile_at _ _ _ _ _ _ 0 0 rfl _ (v402_at c f0 h0) 5120 0 5120 rfl _ (product_10 c f0 f2 h0 h1 h2) _
      (term_one c f0 f3 f4 f5 h0 h3 h4 h5 5120 10 320 rfl (by decide) inb_S18x480x256_S1x128x256_10_320_0) slices_S256x512_o0_0_S128x128 slices_S128x256_o0_0_S128x128)

theorem product_11 (r : Fin 256) (i : Fin 512) :
    (v2180 c f0 f2 h0 h1 h2 : FVec Ideal S256x512 .f32) (ix2 r i) = Math.acc (X0 c h0) (W0 c h1) (S0 c h2) r (5632 + i) :=
  product_512 c f0 f2 h0 h1 h2 5632 inb_S2880x8640_S2880x512_0_5632 inb_S8640_S512_5632 r i

theorem rows_11 (h : View.PiecesOf (Y0 c h0 h1 h2 h3 h4 h5) (S8_88 c f0 f2 f3 f4 f5 h0 h1 h2 h3 h4 h5)) :
    View.PiecesOf (Y0 c h0 h1 h2 h3 h4 h5) (S8_96 c f0 f2 f3 f4 f5 h0 h1 h2 h3 h4 h5) := by
  refine ⟨?_, ?_, ?_, ?_, ?_, ?_, ?_, ?_, h⟩
  · exact block3 _ 1 6016 0 inb_S2x8640x128_S1x128x128_1_6016_0 _ (tile_at _ _ _ _ _ _ 1 128 rfl _ (v523_at c f0 h0) 5632 384 6016 rfl _ (product_11 c f0 f2 h0 h1 h2) _
      (term_one c f0 f3 f4 f5 h0 h3 h4 h5 6016 12 256 rfl (by decide) inb_S18x480x256_S1x128x256_12_256_0) slices_S256x512_o128_384_S128x128 slices_S128x256_o0_128_S128x128)
  · exact block3 _ 0 6016 0 inb_S2x8640x128_S1x128x128_0_6016_0 _ (tile_at _ _ _ _ _ _ 0 0 rfl _ (v402_at c f0 h0) 5632 384 6016 rfl _ (product_11 c f0 f2 h0 h1 h2) _
      (term_one c f0 f3 f4 f5 h0 h3 h4 h5 6016 12 256 rfl (by decide) inb_S18x480x256_S1x128x256_12_256_0) slices_S256x512_o0_384_S128x128 slices_S128x256_o0_0_S128x128)
  · exact block3 _ 1 5888 0 inb_S2x8640x128_S1x128x128_1_5888_0 _ (tile_at _ _ _ _ _ _ 1 128 rfl _ (v523_at c f0 h0) 5632 256 5888 rfl _ (product_11 c f0 f2 h0 h1 h2) _
      (term_one c f0 f3 f4 f5 h0 h3 h4 h5 5888 12 128 rfl (by decide) inb_S18x480x256_S1x128x256_12_128_0) slices_S256x512_o128_256_S128x128 slices_S128x256_o0_128_S128x128)
  · exact block3 _ 0 5888 0 inb_S2x8640x128_S1x128x128_0_5888_0 _ (tile_at _ _ _ _ _ _ 0 0 rfl _ (v402_at c f0 h0) 5632 256 5888 rfl _ (product_11 c f0 f2 h0 h1 h2) _
      (term_one c f0 f3 f4 f5 h0 h3 h4 h5 5888 12 128 rfl (by decide) inb_S18x480x256_S1x128x256_12_128_0) slices_S256x512_o0_256_S128x128 slices_S128x256_o0_0_S128x128)
  · exact block3 _ 1 5760 0 inb_S2x8640x128_S1x128x128_1_5760_0 _ (tile_at _ _ _ _ _ _ 1 128 rfl _ (v523_at c f0 h0) 5632 128 5760 rfl _ (product_11 c f0 f2 h0 h1 h2) _
      (term_one c f0 f3 f4 f5 h0 h3 h4 h5 5760 12 0 rfl (by decide) inb_S18x480x256_S1x128x256_12_0_0) slices_S256x512_o128_128_S128x128 slices_S128x256_o0_128_S128x128)
  · exact block3 _ 0 5760 0 inb_S2x8640x128_S1x128x128_0_5760_0 _ (tile_at _ _ _ _ _ _ 0 0 rfl _ (v402_at c f0 h0) 5632 128 5760 rfl _ (product_11 c f0 f2 h0 h1 h2) _
      (term_one c f0 f3 f4 f5 h0 h3 h4 h5 5760 12 0 rfl (by decide) inb_S18x480x256_S1x128x256_12_0_0) slices_S256x512_o0_128_S128x128 slices_S128x256_o0_0_S128x128)
  · exact block3 _ 1 5632 0 inb_S2x8640x128_S1x128x128_1_5632_0 _ (tile_at _ _ _ _ _ _ 1 128 rfl _ (v523_at c f0 h0) 5632 0 5632 rfl _ (product_11 c f0 f2 h0 h1 h2) _
      (term_one c f0 f3 f4 f5 h0 h3 h4 h5 5632 11 352 rfl (by decide) inb_S18x480x256_S1x128x256_11_352_0) slices_S256x512_o128_0_S128x128 slices_S128x256_o0_128_S128x128)
  · exact block3 _ 0 5632 0 inb_S2x8640x128_S1x128x128_0_5632_0 _ (tile_at _ _ _ _ _ _ 0 0 rfl _ (v402_at c f0 h0) 5632 0 5632 rfl _ (product_11 c f0 f2 h0 h1 h2) _
      (term_one c f0 f3 f4 f5 h0 h3 h4 h5 5632 11 352 rfl (by decide) inb_S18x480x256_S1x128x256_11_352_0) slices_S256x512_o0_0_S128x128 slices_S128x256_o0_0_S128x128)

end

end Cert.KernelIdeal.Value

end

end
-- ==== Proof.ValueRows2.lean ====
/-
  The tiles of the result, last columns: each is a block of it.
-/
module

public import proofs.«01_k».proof.Proof.ValueTile

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

section

variable (c : Dev nD) (f0 : BufAt (F := Ideal) c sM0) (f2 : BufAt (F := Ideal) c sM2) (f3 : BufAt (F := Ideal) c sM3)
  (f4 : BufAt (F := Ideal) c sM4) (f5 : BufAt (F := Ideal) c sM5) (h0 : BufAt (F := Ideal) c hM0) (h1 : BufAt (F := Ideal) c hM1)
  (h2 : BufAt (F := Ideal) c hM2) (h3 : BufAt (F := Ideal) c hM3) (h4 : BufAt (F := Ideal) c hM4) (h5 : BufAt (F := Ideal) c hM5)

theorem product_12 (r : Fin 256) (i : Fin 512) :
    (v2283 c f0 f2 h0 h1 h2 : FVec Ideal S256x512 .f32) (ix2 r i) = Math.acc (X0 c h0) (W0 c h1) (S0 c h2) r (6144 + i) :=
  product_512 c f0 f2 h0 h1 h2 6144 inb_S2880x8640_S2880x512_0_6144 inb_S8640_S512_6144 r i

theorem rows_12 (h : View.PiecesOf (Y0 c h0 h1 h2 h3 h4 h5) (S8_96 c f0 f2 f3 f4 f5 h0 h1 h2 h3 h4 h5)) :
    View.PiecesOf (Y0 c h0 h1 h2 h3 h4 h5) (S8_104 c f0 f2 f3 f4 f5 h0 h1 h2 h3 h4 h5) := by
  refine ⟨?_, ?_, ?_, ?_, ?_, ?_, ?_, ?_, h⟩
  · exact block3 _ 1 6528 0 inb_S2x8640x128_S1x128x128_1_6528_0 _ (tile_at _ _ _ _ _ _ 1 128 rfl _ (v523_at c f0 h0) 6144 384 6528 rfl _ (product_12 c f0 f2 h0 h1 h2) _
      (term_one c f0 f3 f4 f5 h0 h3 h4 h5 6528 13 288 rfl (by decide) inb_S18x480x256_S1x128x256_13_288_0) slices_S256x512_o128_384_S128x128 slices_S128x256_o0_128_S128x128)
  · exact block3 _ 0 6528 0 inb_S2x8640x128_S1x128x128_0_6528_0 _ (tile_at _ _ _ _ _ _ 0 0 rfl _ (v402_at c f0 h0) 6144 384 6528 rfl _ (product_12 c f0 f2 h0 h1 h2) _
      (term_one c f0 f3 f4 f5 h0 h3 h4 h5 6528 13 288 rfl (by decide) inb_S18x480x256_S1x128x256_13_288_0) slices_S256x512_o0_384_S128x128 slices_S128x256_o0_0_S128x128)
  · exact block3 _ 1 6400 0 inb_S2x8640x128_S1x128x128_1_6400_0 _ (tile_at _ _ _ _ _ _ 1 128 rfl _ (v523_at c f0 h0) 6144 256 6400 rfl _ (product_12 c f0 f2 h0 h1 h2) _
      (term_one c f0 f3 f4 f5 h0 h3 h4 h5 6400 13 160 rfl (by decide) inb_S18x480x256_S1x128x256_13_160_0) slices_S256x512_o128_256_S128x128 slices_S128x256_o0_128_S128x128)
  · exact block3 _ 0 6400 0 inb_S2x8640x128_S1x128x128_0_6400_0 _ (tile_at _ _ _ _ _ _ 0 0 rfl _ (v402_at c f0 h0) 6144 256 6400 rfl _ (product_12 c f0 f2 h0 h1 h2) _
      (term_one c f0 f3 f4 f5 h0 h3 h4 h5 6400 13 160 rfl (by decide) inb_S18x480x256_S1x128x256_13_160_0) slices_S256x512_o0_256_S128x128 slices_S128x256_o0_0_S128x128)
  · exact block3 _ 1 6272 0 inb_S2x8640x128_S1x128x128_1_6272_0 _ (tile_at _ _ _ _ _ _ 1 128 rfl _ (v523_at c f0 h0) 6144 128 6272 rfl _ (product_12 c f0 f2 h0 h1 h2) _
      (term_one c f0 f3 f4 f5 h0 h3 h4 h5 6272 13 32 rfl (by decide) inb_S18x480x256_S1x128x256_13_32_0) slices_S256x512_o128_128_S128x128 slices_S128x256_o0_128_S128x128)
  · exact block3 _ 0 6272 0 inb_S2x8640x128_S1x128x128_0_6272_0 _ (tile_at _ _ _ _ _ _ 0 0 rfl _ (v402_at c f0 h0) 6144 128 6272 rfl _ (product_12 c f0 f2 h0 h1 h2) _
      (term_one c f0 f3 f4 f5 h0 h3 h4 h5 6272 13 32 rfl (by decide) inb_S18x480x256_S1x128x256_13_32_0) slices_S256x512_o0_128_S128x128 slices_S128x256_o0_0_S128x128)
  · exact block3 _ 1 6144 0 inb_S2x8640x128_S1x128x128_1_6144_0 _ (tile_at _ _ _ _ _ _ 1 128 rfl _ (v523_at c f0 h0) 6144 0 6144 rfl _ (product_12 c f0 f2 h0 h1 h2) _
      (term_96_32 c f0 f3 f4 f5 h0 h3 h4 h5 6144 12 13 rfl rfl inb_S18x480x256_S1x96x256_12_384_0 inb_S18x480x256_S1x32x256_13_0_0) slices_S256x512_o128_0_S128x128 slices_S128x256_o0_128_S128x128)
  · exact block3 _ 0 6144 0 inb_S2x8640x128_S1x128x128_0_6144_0 _ (tile_at _ _ _ _ _ _ 0 0 rfl _ (v402_at c f0 h0) 6144 0 6144 rfl _ (product_12 c f0 f2 h0 h1 h2) _
      (term_96_32 c f0 f3 f4 f5 h0 h3 h4 h5 6144 12 13 rfl rfl inb_S18x480x256_S1x96x256_12_384_0 inb_S18x480x256_S1x32x256_13_0_0) slices_S256x512_o0_0_S128x128 slices_S128x256_o0_0_S128x128)

theorem product_13 (r : Fin 256) (i : Fin 512) :
    (v2389 c f0 f2 h0 h1 h2 : FVec Ideal S256x512 .f32) (ix2 r i) = Math.acc (X0 c h0) (W0 c h1) (S0 c h2) r (6656 + i) :=
  product_512 c f0 f2 h0 h1 h2 6656 inb_S2880x8640_S2880x512_0_6656 inb_S8640_S512_6656 r i

theorem rows_13 (h : View.PiecesOf (Y0 c h0 h1 h2 h3 h4 h5) (S8_104 c f0 f2 f3 f4 f5 h0 h1 h2 h3 h4 h5)) :
    View.PiecesOf (Y0 c h0 h1 h2 h3 h4 h5) (S8_112 c f0 f2 f3 f4 f5 h0 h1 h2 h3 h4 h5) := by
  refine ⟨?_, ?_, ?_, ?_, ?_, ?_, ?_, ?_, h⟩
  · exact block3 _ 1 7040 0 inb_S2x8640x128_S1x128x128_1_7040_0 _ (tile_at _ _ _ _ _ _ 1 128 rfl _ (v523_at c f0 h0) 6656 384 7040 rfl _ (product_13 c f0 f2 h0 h1 h2) _
      (term_one c f0 f3 f4 f5 h0 h3 h4 h5 7040 14 320 rfl (by decide) inb_S18x480x256_S1x128x256_14_320_0) slices_S256x512_o128_384_S128x128 slices_S128x256_o0_128_S128x128)
  · exact block3 _ 0 7040 0 inb_S2x8640x128_S1x128x128_0_7040_0 _ (tile_at _ _ _ _ _ _ 0 0 rfl _ (v402_at c f0 h0) 6656 384 7040 rfl _ (product_13 c f0 f2 h0 h1 h2) _
      (term_one c f0 f3 f4 f5 h0 h3 h4 h5 7040 14 320 rfl (by decide) inb_S18x480x256_S1x128x256_14_320_0) slices_S256x512_o0_384_S128x128 slices_S128x256_o0_0_S128x128)
  · exact block3 _ 1 6912 0 inb_S2x8640x128_S1x128x128_1_6912_0 _ (tile_at _ _ _ _ _ _ 1 128 rfl _ (v523_at c f0 h0) 6656 256 6912 rfl _ (product_13 c f0 f2 h0 h1 h2) _
      (term_one c f0 f3 f4 f5 h0 h3 h4 h5 6912 14 192 rfl (by decide) inb_S18x480x256_S1x128x256_14_192_0) slices_S256x512_o128_256_S128x128 slices_S128x256_o0_128_S128x128)
  · exact block3 _ 0 6912 0 inb_S2x8640x128_S1x128x128_0_6912_0 _ (tile_at _ _ _ _ _ _ 0 0 rfl _ (v402_at c f0 h0) 6656 256 6912 rfl _ (product_13 c f0 f2 h0 h1 h2) _
      (term_one c f0 f3 f4 f5 h0 h3 h4 h5 6912 14 192 rfl (by decide) inb_S18x480x256_S1x128x256_14_192_0) slices_S256x512_o0_256_S128x128 slices_S128x256_o0_0_S128x128)
  · exact block3 _ 1 6784 0 inb_S2x8640x128_S1x128x128_1_6784_0 _ (tile_at _ _ _ _ _ _ 1 128 rfl _ (v523_at c f0 h0) 6656 128 6784 rfl _ (product_13 c f0 f2 h0 h1 h2) _
      (term_one c f0 f3 f4 f5 h0 h3 h4 h5 6784 14 64 rfl (by decide) inb_S18x480x256_S1x128x256_14_64_0) slices_S256x512_o128_128_S128x128 slices_S128x256_o0_128_S128x128)
  · exact block3 _ 0 6784 0 inb_S2x8640x128_S1x128x128_0_6784_0 _ (tile_at _ _ _ _ _ _ 0 0 rfl _ (v402_at c f0 h0) 6656 128 6784 rfl _ (product_13 c f0 f2 h0 h1 h2) _
      (term_one c f0 f3 f4 f5 h0 h3 h4 h5 6784 14 64 rfl (by decide) inb_S18x480x256_S1x128x256_14_64_0) slices_S256x512_o0_128_S128x128 slices_S128x256_o0_0_S128x128)
  · exact block3 _ 1 6656 0 inb_S2x8640x128_S1x128x128_1_6656_0 _ (tile_at _ _ _ _ _ _ 1 128 rfl _ (v523_at c f0 h0) 6656 0 6656 rfl _ (product_13 c f0 f2 h0 h1 h2) _
      (term_64_64 c f0 f3 f4 f5 h0 h3 h4 h5 6656 13 14 rfl rfl inb_S18x480x256_S1x64x256_13_416_0 inb_S18x480x256_S1x64x256_14_0_0) slices_S256x512_o128_0_S128x128 slices_S128x256_o0_128_S128x128)
  · exact block3 _ 0 6656 0 inb_S2x8640x128_S1x128x128_0_6656_0 _ (tile_at _ _ _ _ _ _ 0 0 rfl _ (v402_at c f0 h0) 6656 0 6656 rfl _ (product_13 c f0 f2 h0 h1 h2) _
      (term_64_64 c f0 f3 f4 f5 h0 h3 h4 h5 6656 13 14 rfl rfl inb_S18x480x256_S1x64x256_13_416_0 inb_S18x480x256_S1x64x256_14_0_0) slices_S256x512_o0_0_S128x128 slices_S128x256_o0_0_S128x128)

theorem product_14 (r : Fin 256) (i : Fin 512) :
    (v2495 c f0 f2 h0 h1 h2 : FVec Ideal S256x512 .f32) (ix2 r i) = Math.acc (X0 c h0) (W0 c h1) (S0 c h2) r (7168 + i) :=
  product_512 c f0 f2 h0 h1 h2 7168 inb_S2880x8640_S2880x512_0_7168 inb_S8640_S512_7168 r i

theorem rows_14 (h : View.PiecesOf (Y0 c h0 h1 h2 h3 h4 h5) (S8_112 c f0 f2 f3 f4 f5 h0 h1 h2 h3 h4 h5)) :
    View.PiecesOf (Y0 c h0 h1 h2 h3 h4 h5) (S8_120 c f0 f2 f3 f4 f5 h0 h1 h2 h3 h4 h5) := by
  refine ⟨?_, ?_, ?_, ?_, ?_, ?_, ?_, ?_, h⟩
  · exact block3 _ 1 7552 0 inb_S2x8640x128_S1x128x128_1_7552_0 _ (tile_at _ _ _ _ _ _ 1 128 rfl _ (v523_at c f0 h0) 7168 384 7552 rfl _ (product_14 c f0 f2 h0 h1 h2) _
      (term_one c f0 f3 f4 f5 h0 h3 h4 h5 7552 15 352 rfl (by decide) inb_S18x480x256_S1x128x256_15_352_0) slices_S256x512_o128_384_S128x128 slices_S128x256_o0_128_S128x128)
  · exact block3 _ 0 7552 0 inb_S2x8640x128_S1x128x128_0_7552_0 _ (tile_at _ _ _ _ _ _ 0 0 rfl _ (v402_at c f0 h0) 7168 384 7552 rfl _ (product_14 c f0 f2 h0 h1 h2) _
      (term_one c f0 f3 f4 f5 h0 h3 h4 h5 7552 15 352 rfl (by decide) inb_S18x480x256_S1x128x256_15_352_0) slices_S256x512_o0_384_S128x128 slices_S128x256_o0_0_S128x128)
  · exact block3 _ 1 7424 0 inb_S2x8640x128_S1x128x128_1_7424_0 _ (tile_at _ _ _ _ _ _ 1 128 rfl _ (v523_at c f0 h0) 7168 256 7424 rfl _ (product_14 c f0 f2 h0 h1 h2) _
      (term_one c f0 f3 f4 f5 h0 h3 h4 h5 7424 15 224 rfl (by decide) inb_S18x480x256_S1x128x256_15_224_0) slices_S256x512_o128_256_S128x128 slices_S128x256_o0_128_S128x128)
  · exact block3 _ 0 7424 0 inb_S2x8640x128_S1x128x128_0_7424_0 _ (tile_at _ _ _ _ _ _ 0 0 rfl _ (v402_at c f0 h0) 7168 256 7424 rfl _ (product_14 c f0 f2 h0 h1 h2) _
      (term_one c f0 f3 f4 f5 h0 h3 h4 h5 7424 15 224 rfl (by decide) inb_S18x480x256_S1x128x256_15_224_0) slices_S256x512_o0_256_S128x128 slices_S128x256_o0_0_S128x128)
  · exact block3 _ 1 7296 0 inb_S2x8640x128_S1x128x128_1_7296_0 _ (tile_at _ _ _ _ _ _ 1 128 rfl _ (v523_at c f0 h0) 7168 128 7296 rfl _ (product_14 c f0 f2 h0 h1 h2) _
      (term_one c f0 f3 f4 f5 h0 h3 h4 h5 7296 15 96 rfl (by decide) inb_S18x480x256_S1x128x256_15_96_0) slices_S256x512_o128_128_S128x128 slices_S128x256_o0_128_S128x128)
  · exact block3 _ 0 7296 0 inb_S2x8640x128_S1x128x128_0_7296_0 _ (tile_at _ _ _ _ _ _ 0 0 rfl _ (v402_at c f0 h0) 7168 128 7296 rfl _ (product_14 c f0 f2 h0 h1 h2) _
      (term_one c f0 f3 f4 f5 h0 h3 h4 h5 7296 15 96 rfl (by decide) inb_S18x480x256_S1x128x256_15_96_0) slices_S256x512_o0_128_S128x128 slices_S128x256_o0_0_S128x128)
  · exact block3 _ 1 7168 0 inb_S2x8640x128_S1x128x128_1_7168_0 _ (tile_at _ _ _ _ _ _ 1 128 rfl _ (v523_at c f0 h0) 7168 0 7168 rfl _ (product_14 c f0 f2 h0 h1 h2) _
      (term_32_96 c f0 f3 f4 f5 h0 h3 h4 h5 7168 14 15 rfl rfl inb_S18x480x256_S1x32x256_14_448_0 inb_S18x480x256_S1x96x256_15_0_0) slices_S256x512_o128_0_S128x128 slices_S128x256_o0_128_S128x128)
  · exact block3 _ 0 7168 0 inb_S2x8640x128_S1x128x128_0_7168_0 _ (tile_at _ _ _ _ _ _ 0 0 rfl _ (v402_at c f0 h0) 7168 0 7168 rfl _ (product_14 c f0 f2 h0 h1 h2) _
      (term_32_96 c f0 f3 f4 f5 h0 h3 h4 h5 7168 14 15 rfl rfl inb_S18x480x256_S1x32x256_14_448_0 inb_S18x480x256_S1x96x256_15_0_0) slices_S256x512_o0_0_S128x128 slices_S128x256_o0_0_S128x128)

theorem product_15 (r : Fin 256) (i : Fin 512) :
    (v2601 c f0 f2 h0 h1 h2 : FVec Ideal S256x512 .f32) (ix2 r i) = Math.acc (X0 c h0) (W0 c h1) (S0 c h2) r (7680 + i) :=
  product_512 c f0 f2 h0 h1 h2 7680 inb_S2880x8640_S2880x512_0_7680 inb_S8640_S512_7680 r i

theorem rows_15 (h : View.PiecesOf (Y0 c h0 h1 h2 h3 h4 h5) (S8_120 c f0 f2 f3 f4 f5 h0 h1 h2 h3 h4 h5)) :
    View.PiecesOf (Y0 c h0 h1 h2 h3 h4 h5) (S8_128 c f0 f2 f3 f4 f5 h0 h1 h2 h3 h4 h5) := by
  refine ⟨?_, ?_, ?_, ?_, ?_, ?_, ?_, ?_, h⟩
  · exact block3 _ 1 8064 0 inb_S2x8640x128_S1x128x128_1_8064_0 _ (tile_at _ _ _ _ _ _ 1 128 rfl _ (v523_at c f0 h0) 7680 384 8064 rfl _ (product_15 c f0 f2 h0 h1 h2) _
      (term_96_32 c f0 f3 f4 f5 h0 h3 h4 h5 8064 16 17 rfl rfl inb_S18x480x256_S1x96x256_16_384_0 inb_S18x480x256_S1x32x256_17_0_0) slices_S256x512_o128_384_S128x128 slices_S128x256_o0_128_S128x128)
  · exact block3 _ 0 8064 0 inb_S2x8640x128_S1x128x128_0_8064_0 _ (tile_at _ _ _ _ _ _ 0 0 rfl _ (v402_at c f0 h0) 7680 384 8064 rfl _ (product_15 c f0 f2 h0 h1 h2) _
      (term_96_32 c f0 f3 f4 f5 h0 h3 h4 h5 8064 16 17 rfl rfl inb_S18x480x256_S1x96x256_16_384_0 inb_S18x480x256_S1x32x256_17_0_0) slices_S256x512_o0_384_S128x128 slices_S128x256_o0_0_S128x128)
  · exact block3 _ 1 7936 0 inb_S2x8640x128_S1x128x128_1_7936_0 _ (tile_at _ _ _ _ _ _ 1 128 rfl _ (v523_at c f0 h0) 7680 256 7936 rfl _ (product_15 c f0 f2 h0 h1 h2) _
      (term_one c f0 f3 f4 f5 h0 h3 h4 h5 7936 16 256 rfl (by decide) inb_S18x480x256_S1x128x256_16_256_0) slices_S256x512_o128_256_S128x128 slices_S128x256_o0_128_S128x128)
  · exact block3 _ 0 7936 0 inb_S2x8640x128_S1x128x128_0_7936_0 _ (tile_at _ _ _ _ _ _ 0 0 rfl _ (v402_at c f0 h0) 7680 256 7936 rfl _ (product_15 c f0 f2 h0 h1 h2) _
      (term_one c f0 f3 f4 f5 h0 h3 h4 h5 7936 16 256 rfl (by decide) inb_S18x480x256_S1x128x256_16_256_0) slices_S256x512_o0_256_S128x128 slices_S128x256_o0_0_S128x128)
  · exact block3 _ 1 7808 0 inb_S2x8640x128_S1x128x128_1_7808_0 _ (tile_at _ _ _ _ _ _ 1 128 rfl _ (v523_at c f0 h0) 7680 128 7808 rfl _ (product_15 c f0 f2 h0 h1 h2) _
      (term_one c f0 f3 f4 f5 h0 h3 h4 h5 7808 16 128 rfl (by decide) inb_S18x480x256_S1x128x256_16_128_0) slices_S256x512_o128_128_S128x128 slices_S128x256_o0_128_S128x128)
  · exact block3 _ 0 7808 0 inb_S2x8640x128_S1x128x128_0_7808_0 _ (tile_at _ _ _ _ _ _ 0 0 rfl _ (v402_at c f0 h0) 7680 128 7808 rfl _ (product_15 c f0 f2 h0 h1 h2) _
      (term_one c f0 f3 f4 f5 h0 h3 h4 h5 7808 16 128 rfl (by decide) inb_S18x480x256_S1x128x256_16_128_0) slices_S256x512_o0_128_S128x128 slices_S128x256_o0_0_S128x128)
  · exact block3 _ 1 7680 0 inb_S2x8640x128_S1x128x128_1_7680_0 _ (tile_at _ _ _ _ _ _ 1 128 rfl _ (v523_at c f0 h0) 7680 0 7680 rfl _ (product_15 c f0 f2 h0 h1 h2) _
      (term_one c f0 f3 f4 f5 h0 h3 h4 h5 7680 16 0 rfl (by decide) inb_S18x480x256_S1x128x256_16_0_0) slices_S256x512_o128_0_S128x128 slices_S128x256_o0_128_S128x128)
  · exact block3 _ 0 7680 0 inb_S2x8640x128_S1x128x128_0_7680_0 _ (tile_at _ _ _ _ _ _ 0 0 rfl _ (v402_at c f0 h0) 7680 0 7680 rfl _ (product_15 c f0 f2 h0 h1 h2) _
      (term_one c f0 f3 f4 f5 h0 h3 h4 h5 7680 16 0 rfl (by decide) inb_S18x480x256_S1x128x256_16_0_0) slices_S256x512_o0_0_S128x128 slices_S128x256_o0_0_S128x128)

theorem product_16 (r : Fin 256) (i : Fin 448) :
    (v2707 c f0 f2 h0 h1 h2 : FVec Ideal S256x448 .f32) (ix2 r i) = Math.acc (X0 c h0) (W0 c h1) (S0 c h2) r (8192 + i) :=
  product_448 c f0 f2 h0 h1 h2 8192 inb_S2880x8640_S2880x448_0_8192 inb_S8640_S448_8192 r i

theorem rows_16 (h : View.PiecesOf (Y0 c h0 h1 h2 h3 h4 h5) (S8_128 c f0 f2 f3 f4 f5 h0 h1 h2 h3 h4 h5)) :
    View.PiecesOf (Y0 c h0 h1 h2 h3 h4 h5) (S8_136 c f0 f2 f3 f4 f5 h0 h1 h2 h3 h4 h5) := by
  refine ⟨?_, ?_, ?_, ?_, ?_, ?_, ?_, ?_, h⟩
  · exact block3 _ 1 8576 0 inb_S2x8640x128_S1x64x128_1_8576_0 _ (lastTile_at _ _ _ _ _ _ 1 128 rfl _ (v523_at c f0 h0) 8192 8576 rfl _ (product_16 c f0 f2 h0 h1 h2) _
      (term_last c f0 f3 f4 f5 h0 h3 h4 h5 8576 17 416 rfl (by decide) inb_S18x480x256_S1x64x256_17_416_0) slices_S256x448_o128_384_S128x64 slices_S64x256_o0_128_S64x128)
  · exact block3 _ 0 8576 0 inb_S2x8640x128_S1x64x128_0_8576_0 _ (lastTile_at _ _ _ _ _ _ 0 0 rfl _ (v402_at c f0 h0) 8192 8576 rfl _ (product_16 c f0 f2 h0 h1 h2) _
      (term_last c f0 f3 f4 f5 h0 h3 h4 h5 8576 17 416 rfl (by decide) inb_S18x480x256_S1x64x256_17_416_0) slices_S256x448_o0_384_S128x64 slices_S64x256_o0_0_S64x128)
  · exact block3 _ 1 8448 0 inb_S2x8640x128_S1x128x128_1_8448_0 _ (tile_at _ _ _ _ _ _ 1 128 rfl _ (v523_at c f0 h0) 8192 256 8448 rfl _ (product_16 c f0 f2 h0 h1 h2) _
      (term_one c f0 f3 f4 f5 h0 h3 h4 h5 8448 17 288 rfl (by decide) inb_S18x480x256_S1x128x256_17_288_0) slices_S256x448_o128_256_S128x128 slices_S128x256_o0_128_S128x128)
  · exact block3 _ 0 8448 0 inb_S2x8640x128_S1x128x128_0_8448_0 _ (tile_at _ _ _ _ _ _ 0 0 rfl _ (v402_at c f0 h0) 8192 256 8448 rfl _ (product_16 c f0 f2 h0 h1 h2) _
      (term_one c f0 f3 f4 f5 h0 h3 h4 h5 8448 17 288 rfl (by decide) inb_S18x480x256_S1x128x256_17_288_0) slices_S256x448_o0_256_S128x128 slices_S128x256_o0_0_S128x128)
  · exact block3 _ 1 8320 0 inb_S2x8640x128_S1x128x128_1_8320_0 _ (tile_at _ _ _ _ _ _ 1 128 rfl _ (v523_at c f0 h0) 8192 128 8320 rfl _ (product_16 c f0 f2 h0 h1 h2) _
      (term_one c f0 f3 f4 f5 h0 h3 h4 h5 8320 17 160 rfl (by decide) inb_S18x480x256_S1x128x256_17_160_0) slices_S256x448_o128_128_S128x128 slices_S128x256_o0_128_S128x128)
  · exact block3 _ 0 8320 0 inb_S2x8640x128_S1x128x128_0_8320_0 _ (tile_at _ _ _ _ _ _ 0 0 rfl _ (v402_at c f0 h0) 8192 128 8320 rfl _ (product_16 c f0 f2 h0 h1 h2) _
      (term_one c f0 f3 f4 f5 h0 h3 h4 h5 8320 17 160 rfl (by decide) inb_S18x480x256_S1x128x256_17_160_0) slices_S256x448_o0_128_S128x128 slices_S128x256_o0_0_S128x128)
  · exact block3 _ 1 8192 0 inb_S2x8640x128_S1x128x128_1_8192_0 _ (tile_at _ _ _ _ _ _ 1 128 rfl _ (v523_at c f0 h0) 8192 0 8192 rfl _ (product_16 c f0 f2 h0 h1 h2) _
      (term_one c f0 f3 f4 f5 h0 h3 h4 h5 8192 17 32 rfl (by decide) inb_S18x480x256_S1x128x256_17_32_0) slices_S256x448_o128_0_S128x128 slices_S128x256_o0_128_S128x128)
  · exact block3 _ 0 8192 0 inb_S2x8640x128_S1x128x128_0_8192_0 _ (tile_at _ _ _ _ _ _ 0 0 rfl _ (v402_at c f0 h0) 8192 0 8192 rfl _ (product_16 c f0 f2 h0 h1 h2) _
      (term_one c f0 f3 f4 f5 h0 h3 h4 h5 8192 17 32 rfl (by decide) inb_S18x480x256_S1x128x256_17_32_0) slices_S256x448_o0_0_S128x128 slices_S128x256_o0_0_S128x128)

end

end Cert.KernelIdeal.Value

end

end
-- ==== Proof.ValueBody.lean ====
/-
  The body's three results, whole: the scaled product with the adapter's term, the codes and the scales.
-/
module

public import proofs.«01_k».proof.Proof.ValueRows0
public import proofs.«01_k».proof.Proof.ValueRows1
public import proofs.«01_k».proof.Proof.ValueRows2

@[expose] public section

set_option maxRecDepth 16384

noncomputable section

namespace Cert.KernelIdeal.Value

open Cert.KernelIdeal Cert.KernelIdeal.Gen Cert.KernelIdeal.Hand Cert.Math
open Idealize.ShloMosaic Idealize.ShloMosaic.TcCoe Idealize.SL.Sem
open Cert.KernelIdeal.Hand.kernelRun0.sl

section

variable (c : Dev nD) (f0 : BufAt (F := Ideal) c sM0) (f1 : BufAt (F := Ideal) c sM1) (f2 : BufAt (F := Ideal) c sM2)
  (f3 : BufAt (F := Ideal) c sM3) (f4 : BufAt (F := Ideal) c sM4) (f5 : BufAt (F := Ideal) c sM5) (f6 : BufAt (F := Ideal) c sM6)
  (f7 : BufAt (F := Ideal) c sM7) (f8 : BufAt (F := Ideal) c sM8) (f9 : BufAt (F := Ideal) c sM9) (f10 : BufAt (F := Ideal) c sM10)
  (f11 : BufAt (F := Ideal) c sM11) (f12 : BufAt (F := Ideal) c sM12) (h0 : BufAt (F := Ideal) c hM0) (h1 : BufAt (F := Ideal) c hM1)
  (h2 : BufAt (F := Ideal) c hM2) (h3 : BufAt (F := Ideal) c hM3) (h4 : BufAt (F := Ideal) c hM4) (h5 : BufAt (F := Ideal) c hM5)
  (h6 : BufAt (F := Ideal) c hM6) (h7 : BufAt (F := Ideal) c hM7) (h8 : BufAt (F := Ideal) c hM8)

/-- A band of columns of the staged result, sent once its tiles are stored, is the result's band. -/
theorem sent (L : List (View.Piece (Elt Ideal) S2x8640x128 .bf16)) (G : S2x8640x128.Idx → EReal) (h : View.PiecesOf G L) (q t m : ℕ)
    (hm : m = 64 * t) (hb : band L q t = true) (inb) (x : (⟨3, ![2, m, 128]⟩ : Shape).Idx) :
    View.read (Elt Ideal) sM8.view (sM8.view.writes (Elt Ideal) f8 L) ((Rect.unit (s := S2x8640x128) ![0, q, 0] ![2, m, 128] inb).emb x)
      = G ((Rect.unit (s := S2x8640x128) ![0, q, 0] ![2, m, 128] inb).emb x) := by
  have x0 : (x 0).val < 2 := (x 0).isLt
  have x1 : (x 1).val < m := (x 1).isLt
  have x2 : (x 2).val < 128 := (x 2).isLt
  refine View.read_writes_apply_of_pieces sM8.view f8 G L h.mem _ (cover_band L q t hb _ ?_ ?_ ?_ ?_)
  · change 0 + 1 * (x 0).val < 2
    omega
  · change q ≤ q + 1 * (x 1).val
    omega
  · change q + 1 * (x 1).val < q + 64 * t
    omega
  · change 0 + 1 * (x 2).val < 128
    omega

theorem all_0 : View.PiecesOf (Y0 c h0 h1 h2 h3 h4 h5) (S8_8 c f0 f2 f3 f4 f5 h0 h1 h2 h3 h4 h5) := rows_0 c f0 f2 f3 f4 f5 h0 h1 h2 h3 h4 h5
theorem all_1 : View.PiecesOf (Y0 c h0 h1 h2 h3 h4 h5) (S8_16 c f0 f2 f3 f4 f5 h0 h1 h2 h3 h4 h5) := rows_1 c f0 f2 f3 f4 f5 h0 h1 h2 h3 h4 h5 (all_0 c f0 f2 f3 f4 f5 h0 h1 h2 h3 h4 h5)
theorem all_2 : View.PiecesOf (Y0 c h0 h1 h2 h3 h4 h5) (S8_24 c f0 f2 f3 f4 f5 h0 h1 h2 h3 h4 h5) := rows_2 c f0 f2 f3 f4 f5 h0 h1 h2 h3 h4 h5 (all_1 c f0 f2 f3 f4 f5 h0 h1 h2 h3 h4 h5)
theorem all_3 : View.PiecesOf (Y0 c h0 h1 h2 h3 h4 h5) (S8_32 c f0 f2 f3 f4 f5 h0 h1 h2 h3 h4 h5) := rows_3 c f0 f2 f3 f4 f5 h0 h1 h2 h3 h4 h5 (all_2 c f0 f2 f3 f4 f5 h0 h1 h2 h3 h4 h5)
theorem all_4 : View.PiecesOf (Y0 c h0 h1 h2 h3 h4 h5) (S8_40 c f0 f2 f3 f4 f5 h0 h1 h2 h3 h4 h5) := rows_4 c f0 f2 f3 f4 f5 h0 h1 h2 h3 h4 h5 (all_3 c f0 f2 f3 f4 f5 h0 h1 h2 h3 h4 h5)
theorem all_5 : View.PiecesOf (Y0 c h0 h1 h2 h3 h4 h5) (S8_48 c f0 f2 f3 f4 f5 h0 h1 h2 h3 h4 h5) := rows_5 c f0 f2 f3 f4 f5 h0 h1 h2 h3 h4 h5 (all_4 c f0 f2 f3 f4 f5 h0 h1 h2 h3 h4 h5)
theorem all_6 : View.PiecesOf (Y0 c h0 h1 h2 h3 h4 h5) (S8_56 c f0 f2 f3 f4 f5 h0 h1 h2 h3 h4 h5) := rows_6 c f0 f2 f3 f4 f5 h0 h1 h2 h3 h4 h5 (all_5 c f0 f2 f3 f4 f5 h0 h1 h2 h3 h4 h5)
theorem all_7 : View.PiecesOf (Y0 c h0 h1 h2 h3 h4 h5) (S8_64 c f0 f2 f3 f4 f5 h0 h1 h2 h3 h4 h5) := rows_7 c f0 f2 f3 f4 f5 h0 h1 h2 h3 h4 h5 (all_6 c f0 f2 f3 f4 f5 h0 h1 h2 h3 h4 h5)
theorem all_8 : View.PiecesOf (Y0 c h0 h1 h2 h3 h4 h5) (S8_72 c f0 f2 f3 f4 f5 h0 h1 h2 h3 h4 h5) := rows_8 c f0 f2 f3 f4 f5 h0 h1 h2 h3 h4 h5 (all_7 c f0 f2 f3 f4 f5 h0 h1 h2 h3 h4 h5)
theorem all_9 : View.PiecesOf (Y0 c h0 h1 h2 h3 h4 h5) (S8_80 c f0 f2 f3 f4 f5 h0 h1 h2 h3 h4 h5) := rows_9 c f0 f2 f3 f4 f5 h0 h1 h2 h3 h4 h5 (all_8 c f0 f2 f3 f4 f5 h0 h1 h2 h3 h4 h5)
theorem all_10 : View.PiecesOf (Y0 c h0 h1 h2 h3 h4 h5) (S8_88 c f0 f2 f3 f4 f5 h0 h1 h2 h3 h4 h5) := rows_10 c f0 f2 f3 f4 f5 h0 h1 h2 h3 h4 h5 (all_9 c f0 f2 f3 f4 f5 h0 h1 h2 h3 h4 h5)
theorem all_11 : View.PiecesOf (Y0 c h0 h1 h2 h3 h4 h5) (S8_96 c f0 f2 f3 f4 f5 h0 h1 h2 h3 h4 h5) := rows_11 c f0 f2 f3 f4 f5 h0 h1 h2 h3 h4 h5 (all_10 c f0 f2 f3 f4 f5 h0 h1 h2 h3 h4 h5)
theorem all_12 : View.PiecesOf (Y0 c h0 h1 h2 h3 h4 h5) (S8_104 c f0 f2 f3 f4 f5 h0 h1 h2 h3 h4 h5) := rows_12 c f0 f2 f3 f4 f5 h0 h1 h2 h3 h4 h5 (all_11 c f0 f2 f3 f4 f5 h0 h1 h2 h3 h4 h5)
theorem all_13 : View.PiecesOf (Y0 c h0 h1 h2 h3 h4 h5) (S8_112 c f0 f2 f3 f4 f5 h0 h1 h2 h3 h4 h5) := rows_13 c f0 f2 f3 f4 f5 h0 h1 h2 h3 h4 h5 (all_12 c f0 f2 f3 f4 f5 h0 h1 h2 h3 h4 h5)
theorem all_14 : View.PiecesOf (Y0 c h0 h1 h2 h3 h4 h5) (S8_120 c f0 f2 f3 f4 f5 h0 h1 h2 h3 h4 h5) := rows_14 c f0 f2 f3 f4 f5 h0 h1 h2 h3 h4 h5 (all_13 c f0 f2 f3 f4 f5 h0 h1 h2 h3 h4 h5)
theorem all_15 : View.PiecesOf (Y0 c h0 h1 h2 h3 h4 h5) (S8_128 c f0 f2 f3 f4 f5 h0 h1 h2 h3 h4 h5) := rows_15 c f0 f2 f3 f4 f5 h0 h1 h2 h3 h4 h5 (all_14 c f0 f2 f3 f4 f5 h0 h1 h2 h3 h4 h5)
theorem all_16 : View.PiecesOf (Y0 c h0 h1 h2 h3 h4 h5) (S8_136 c f0 f2 f3 f4 f5 h0 h1 h2 h3 h4 h5) := rows_16 c f0 f2 f3 f4 f5 h0 h1 h2 h3 h4 h5 (all_15 c f0 f2 f3 f4 f5 h0 h1 h2 h3 h4 h5)

theorem band_0 : band (S8_8 c f0 f2 f3 f4 f5 h0 h1 h2 h3 h4 h5) 0 8 = true := by sl_kernel_rfl
theorem sent_0 (x) : dma256 c f0 f2 f3 f4 f5 f8 h0 h1 h2 h3 h4 h5 x
    = Y0 c h0 h1 h2 h3 h4 h5 ((Rect.unit (s := S2x8640x128) ![0, 0, 0] S2x512x128.size inb_S2x8640x128_S2x512x128_0_0_0).emb x) :=
  sent c f8 (S8_8 c f0 f2 f3 f4 f5 h0 h1 h2 h3 h4 h5) _ (all_0 c f0 f2 f3 f4 f5 h0 h1 h2 h3 h4 h5) 0 8 512 rfl (band_0 c f0 f2 f3 f4 f5 h0 h1 h2 h3 h4 h5) inb_S2x8640x128_S2x512x128_0_0_0 x

theorem band_1 : band (S8_16 c f0 f2 f3 f4 f5 h0 h1 h2 h3 h4 h5) 512 8 = true := by sl_kernel_rfl
theorem sent_1 (x) : dma280 c f0 f2 f3 f4 f5 f8 h0 h1 h2 h3 h4 h5 x
    = Y0 c h0 h1 h2 h3 h4 h5 ((Rect.unit (s := S2x8640x128) ![0, 512, 0] S2x512x128.size inb_S2x8640x128_S2x512x128_0_512_0).emb x) :=
  sent c f8 (S8_16 c f0 f2 f3 f4 f5 h0 h1 h2 h3 h4 h5) _ (all_1 c f0 f2 f3 f4 f5 h0 h1 h2 h3 h4 h5) 512 8 512 rfl (band_1 c f0 f2 f3 f4 f5 h0 h1 h2 h3 h4 h5) inb_S2x8640x128_S2x512x128_0_512_0 x

theorem band_2 : band (S8_24 c f0 f2 f3 f4 f5 h0 h1 h2 h3 h4 h5) 1024 8 = true := by sl_kernel_rfl
theorem sent_2 (x) : dma304 c f0 f2 f3 f4 f5 f8 h0 h1 h2 h3 h4 h5 x
    = Y0 c h0 h1 h2 h3 h4 h5 ((Rect.unit (s := S2x8640x128) ![0, 1024, 0] S2x512x128.size inb_S2x8640x128_S2x512x128_0_1024_0).emb x) :=
  sent c f8 (S8_24 c f0 f2 f3 f4 f5 h0 h1 h2 h3 h4 h5) _ (all_2 c f0 f2 f3 f4 f5 h0 h1 h2 h3 h4 h5) 1024 8 512 rfl (band_2 c f0 f2 f3 f4 f5 h0 h1 h2 h3 h4 h5) inb_S2x8640x128_S2x512x128_0_1024_0 x

theorem band_3 : band (S8_32 c f0 f2 f3 f4 f5 h0 h1 h2 h3 h4 h5) 1536 8 = true := by sl_kernel_rfl
theorem sent_3 (x) : dma327 c f0 f2 f3 f4 f5 f8 h0 h1 h2 h3 h4 h5 x
    = Y0 c h0 h1 h2 h3 h4 h5 ((Rect.unit (s := S2x8640x128) ![0, 1536, 0] S2x512x128.size inb_S2x8640x128_S2x512x128_0_1536_0).emb x) :=
  sent c f8 (S8_32 c f0 f2 f3 f4 f5 h0 h1 h2 h3 h4 h5) _ (all_3 c f0 f2 f3 f4 f5 h0 h1 h2 h3 h4 h5) 1536 8 512 rfl (band_3 c f0 f2 f3 f4 f5 h0 h1 h2 h3 h4 h5) inb_S2x8640x128_S2x512x128_0_1536_0 x

theorem band_4 : band (S8_40 c f0 f2 f3 f4 f5 h0 h1 h2 h3 h4 h5) 2048 8 = true := by sl_kernel_rfl
theorem sent_4 (x) : dma351 c f0 f2 f3 f4 f5 f8 h0 h1 h2 h3 h4 h5 x
    = Y0 c h0 h1 h2 h3 h4 h5 ((Rect.unit (s := S2x8640x128) ![0, 2048, 0] S2x512x128.size inb_S2x8640x128_S2x512x128_0_2048_0).emb x) :=
  sent c f8 (S8_40 c f0 f2 f3 f4 f5 h0 h1 h2 h3 h4 h5) _ (all_4 c f0 f2 f3 f4 f5 h0 h1 h2 h3 h4 h5) 2048 8 512 rfl (band_4 c f0 f2 f3 f4 f5 h0 h1 h2 h3 h4 h5) inb_S2x8640x128_S2x512x128_0_2048_0 x

theorem band_5 : band (S8_48 c f0 f2 f3 f4 f5 h0 h1 h2 h3 h4 h5) 2560 8 = true := by sl_kernel_rfl
theorem sent_5 (x) : dma375 c f0 f2 f3 f4 f5 f8 h0 h1 h2 h3 h4 h5 x
    = Y0 c h0 h1 h2 h3 h4 h5 ((Rect.unit (s := S2x8640x128) ![0, 2560, 0] S2x512x128.size inb_S2x8640x128_S2x512x128_0_2560_0).emb x) :=
  sent c f8 (S8_48 c f0 f2 f3 f4 f5 h0 h1 h2 h3 h4 h5) _ (all_5 c f0 f2 f3 f4 f5 h0 h1 h2 h3 h4 h5) 2560 8 512 rfl (band_5 c f0 f2 f3 f4 f5 h0 h1 h2 h3 h4 h5) inb_S2x8640x128_S2x512x128_0_2560_0 x

theorem band_6 : band (S8_56 c f0 f2 f3 f4 f5 h0 h1 h2 h3 h4 h5) 3072 8 = true := by sl_kernel_rfl
theorem sent_6 (x) : dma399 c f0 f2 f3 f4 f5 f8 h0 h1 h2 h3 h4 h5 x
    = Y0 c h0 h1 h2 h3 h4 h5 ((Rect.unit (s := S2x8640x128) ![0, 3072, 0] S2x512x128.size inb_S2x8640x128_S2x512x128_0_3072_0).emb x) :=
  sent c f8 (S8_56 c f0 f2 f3 f4 f5 h0 h1 h2 h3 h4 h5) _ (all_6 c f0 f2 f3 f4 f5 h0 h1 h2 h3 h4 h5) 3072 8 512 rfl (band_6 c f0 f2 f3 f4 f5 h0 h1 h2 h3 h4 h5) inb_S2x8640x128_S2x512x128_0_3072_0 x

theorem band_7 : band (S8_64 c f0 f2 f3 f4 f5 h0 h1 h2 h3 h4 h5) 3584 8 = true := by sl_kernel_rfl
theorem sent_7 (x) : dma422 c f0 f2 f3 f4 f5 f8 h0 h1 h2 h3 h4 h5 x
    = Y0 c h0 h1 h2 h3 h4 h5 ((Rect.unit (s := S2x8640x128) ![0, 3584, 0] S2x512x128.size inb_S2x8640x128_S2x512x128_0_3584_0).emb x) :=
  sent c f8 (S8_64 c f0 f2 f3 f4 f5 h0 h1 h2 h3 h4 h5) _ (all_7 c f0 f2 f3 f4 f5 h0 h1 h2 h3 h4 h5) 3584 8 512 rfl (band_7 c f0 f2 f3 f4 f5 h0 h1 h2 h3 h4 h5) inb_S2x8640x128_S2x512x128_0_3584_0 x

theorem band_8 : band (S8_72 c f0 f2 f3 f4 f5 h0 h1 h2 h3 h4 h5) 4096 8 = true := by sl_kernel_rfl
theorem sent_8 (x) : dma446 c f0 f2 f3 f4 f5 f8 h0 h1 h2 h3 h4 h5 x
    = Y0 c h0 h1 h2 h3 h4 h5 ((Rect.unit (s := S2x8640x128) ![0, 4096, 0] S2x512x128.size inb_S2x8640x128_S2x512x128_0_4096_0).emb x) :=
  sent c f8 (S8_72 c f0 f2 f3 f4 f5 h0 h1 h2 h3 h4 h5) _ (all_8 c f0 f2 f3 f4 f5 h0 h1 h2 h3 h4 h5) 4096 8 512 rfl (band_8 c f0 f2 f3 f4 f5 h0 h1 h2 h3 h4 h5) inb_S2x8640x128_S2x512x128_0_4096_0 x

theorem band_9 : band (S8_80 c f0 f2 f3 f4 f5 h0 h1 h2 h3 h4 h5) 4608 8 = true := by sl_kernel_rfl
theorem sent_9 (x) : dma470 c f0 f2 f3 f4 f5 f8 h0 h1 h2 h3 h4 h5 x
    = Y0 c h0 h1 h2 h3 h4 h5 ((Rect.unit (s := S2x8640x128) ![0, 4608, 0] S2x512x128.size inb_S2x8640x128_S2x512x128_0_4608_0).emb x) :=
  sent c f8 (S8_80 c f0 f2 f3 f4 f5 h0 h1 h2 h3 h4 h5) _ (all_9 c f0 f2 f3 f4 f5 h0 h1 h2 h3 h4 h5) 4608 8 512 rfl (band_9 c f0 f2 f3 f4 f5 h0 h1 h2 h3 h4 h5) inb_S2x8640x128_S2x512x128_0_4608_0 x

theorem band_10 : band (S8_88 c f0 f2 f3 f4 f5 h0 h1 h2 h3 h4 h5) 5120 8 = true := by sl_kernel_rfl
theorem sent_10 (x) : dma494 c f0 f2 f3 f4 f5 f8 h0 h1 h2 h3 h4 h5 x
    = Y0 c h0 h1 h2 h3 h4 h5 ((Rect.unit (s := S2x8640x128) ![0, 5120, 0] S2x512x128.size inb_S2x8640x128_S2x512x128_0_5120_0).emb x) :=
  sent c f8 (S8_88 c f0 f2 f3 f4 f5 h0 h1 h2 h3 h4 h5) _ (all_10 c f0 f2 f3 f4 f5 h0 h1 h2 h3 h4 h5) 5120 8 512 rfl (band_10 c f0 f2 f3 f4 f5 h0 h1 h2 h3 h4 h5) inb_S2x8640x128_S2x512x128_0_5120_0 x

theorem band_11 : band (S8_96 c f0 f2 f3 f4 f5 h0 h1 h2 h3 h4 h5) 5632 8 = true := by sl_kernel_rfl
theorem sent_11 (x) : dma517 c f0 f2 f3 f4 f5 f8 h0 h1 h2 h3 h4 h5 x
    = Y0 c h0 h1 h2 h3 h4 h5 ((Rect.unit (s := S2x8640x128) ![0, 5632, 0] S2x512x128.size inb_S2x8640x128_S2x512x128_0_5632_0).emb x) :=
  sent c f8 (S8_96 c f0 f2 f3 f4 f5 h0 h1 h2 h3 h4 h5) _ (all_11 c f0 f2 f3 f4 f5 h0 h1 h2 h3 h4 h5) 5632 8 512 rfl (band_11 c f0 f2 f3 f4 f5 h0 h1 h2 h3 h4 h5) inb_S2x8640x128_S2x512x128_0_5632_0 x

theorem band_12 : band (S8_104 c f0 f2 f3 f4 f5 h0 h1 h2 h3 h4 h5) 6144 8 = true := by sl_kernel_rfl
theorem sent_12 (x) : dma541 c f0 f2 f3 f4 f5 f8 h0 h1 h2 h3 h4 h5 x
    = Y0 c h0 h1 h2 h3 h4 h5 ((Rect.unit (s := S2x8640x128) ![0, 6144, 0] S2x512x128.size inb_S2x8640x128_S2x512x128_0_6144_0).emb x) :=
  sent c f8 (S8_104 c f0 f2 f3 f4 f5 h0 h1 h2 h3 h4 h5) _ (all_12 c f0 f2 f3 f4 f5 h0 h1 h2 h3 h4 h5) 6144 8 512 rfl (band_12 c f0 f2 f3 f4 f5 h0 h1 h2 h3 h4 h5) inb_S2x8640x128_S2x512x128_0_6144_0 x

theorem band_13 : band (S8_112 c f0 f2 f3 f4 f5 h0 h1 h2 h3 h4 h5) 6656 8 = true := by sl_kernel_rfl
theorem sent_13 (x) : dma565 c f0 f2 f3 f4 f5 f8 h0 h1 h2 h3 h4 h5 x
    = Y0 c h0 h1 h2 h3 h4 h5 ((Rect.unit (s := S2x8640x128) ![0, 6656, 0] S2x512x128.size inb_S2x8640x128_S2x512x128_0_6656_0).emb x) :=
  sent c f8 (S8_112 c f0 f2 f3 f4 f5 h0 h1 h2 h3 h4 h5) _ (all_13 c f0 f2 f3 f4 f5 h0 h1 h2 h3 h4 h5) 6656 8 512 rfl (band_13 c f0 f2 f3 f4 f5 h0 h1 h2 h3 h4 h5) inb_S2x8640x128_S2x512x128_0_6656_0 x

theorem band_14 : band (S8_120 c f0 f2 f3 f4 f5 h0 h1 h2 h3 h4 h5) 7168 8 = true := by sl_kernel_rfl
theorem sent_14 (x) : dma589 c f0 f2 f3 f4 f5 f8 h0 h1 h2 h3 h4 h5 x
    = Y0 c h0 h1 h2 h3 h4 h5 ((Rect.unit (s := S2x8640x128) ![0, 7168, 0] S2x512x128.size inb_S2x8640x128_S2x512x128_0_7168_0).emb x) :=
  sent c f8 (S8_120 c f0 f2 f3 f4 f5 h0 h1 h2 h3 h4 h5) _ (all_14 c f0 f2 f3 f4 f5 h0 h1 h2 h3 h4 h5) 7168 8 512 rfl (band_14 c f0 f2 f3 f4 f5 h0 h1 h2 h3 h4 h5) inb_S2x8640x128_S2x512x128_0_7168_0 x

theorem band_15 : band (S8_128 c f0 f2 f3 f4 f5 h0 h1 h2 h3 h4 h5) 7680 8 = true := by sl_kernel_rfl
theorem sent_15 (x) : dma613 c f0 f2 f3 f4 f5 f8 h0 h1 h2 h3 h4 h5 x
    = Y0 c h0 h1 h2 h3 h4 h5 ((Rect.unit (s := S2x8640x128) ![0, 7680, 0] S2x512x128.size inb_S2x8640x128_S2x512x128_0_7680_0).emb x) :=
  sent c f8 (S8_128 c f0 f2 f3 f4 f5 h0 h1 h2 h3 h4 h5) _ (all_15 c f0 f2 f3 f4 f5 h0 h1 h2 h3 h4 h5) 7680 8 512 rfl (band_15 c f0 f2 f3 f4 f5 h0 h1 h2 h3 h4 h5) inb_S2x8640x128_S2x512x128_0_7680_0 x

theorem band_16 : band (S8_136 c f0 f2 f3 f4 f5 h0 h1 h2 h3 h4 h5) 8192 7 = true := by sl_kernel_rfl
theorem sent_16 (x) : dma636 c f0 f2 f3 f4 f5 f8 h0 h1 h2 h3 h4 h5 x
    = Y0 c h0 h1 h2 h3 h4 h5 ((Rect.unit (s := S2x8640x128) ![0, 8192, 0] S2x448x128.size inb_S2x8640x128_S2x448x128_0_8192_0).emb x) :=
  sent c f8 (S8_136 c f0 f2 f3 f4 f5 h0 h1 h2 h3 h4 h5) _ (all_16 c f0 f2 f3 f4 f5 h0 h1 h2 h3 h4 h5) 8192 7 448 rfl (band_16 c f0 f2 f3 f4 f5 h0 h1 h2 h3 h4 h5) inb_S2x8640x128_S2x448x128_0_8192_0 x

/-- The bands as they lie in the result. -/
def bands : List (View.Piece (Elt Ideal) S2x8640x128 .bf16) :=
  [⟨Rect.unit ![0, 8192, 0] S2x448x128.size inb_S2x8640x128_S2x448x128_0_8192_0, dma636 c f0 f2 f3 f4 f5 f8 h0 h1 h2 h3 h4 h5⟩,
   ⟨Rect.unit ![0, 7680, 0] S2x512x128.size inb_S2x8640x128_S2x512x128_0_7680_0, dma613 c f0 f2 f3 f4 f5 f8 h0 h1 h2 h3 h4 h5⟩,
   ⟨Rect.unit ![0, 7168, 0] S2x512x128.size inb_S2x8640x128_S2x512x128_0_7168_0, dma589 c f0 f2 f3 f4 f5 f8 h0 h1 h2 h3 h4 h5⟩,
   ⟨Rect.unit ![0, 6656, 0] S2x512x128.size inb_S2x8640x128_S2x512x128_0_6656_0, dma565 c f0 f2 f3 f4 f5 f8 h0 h1 h2 h3 h4 h5⟩,
   ⟨Rect.unit ![0, 6144, 0] S2x512x128.size inb_S2x8640x128_S2x512x128_0_6144_0, dma541 c f0 f2 f3 f4 f5 f8 h0 h1 h2 h3 h4 h5⟩,
   ⟨Rect.unit ![0, 5632, 0] S2x512x128.size inb_S2x8640x128_S2x512x128_0_5632_0, dma517 c f0 f2 f3 f4 f5 f8 h0 h1 h2 h3 h4 h5⟩,
   ⟨Rect.unit ![0, 5120, 0] S2x512x128.size inb_S2x8640x128_S2x512x128_0_5120_0, dma494 c f0 f2 f3 f4 f5 f8 h0 h1 h2 h3 h4 h5⟩,
   ⟨Rect.unit ![0, 4608, 0] S2x512x128.size inb_S2x8640x128_S2x512x128_0_4608_0, dma470 c f0 f2 f3 f4 f5 f8 h0 h1 h2 h3 h4 h5⟩,
   ⟨Rect.unit ![0, 4096, 0] S2x512x128.size inb_S2x8640x128_S2x512x128_0_4096_0, dma446 c f0 f2 f3 f4 f5 f8 h0 h1 h2 h3 h4 h5⟩,
   ⟨Rect.unit ![0, 3584, 0] S2x512x128.size inb_S2x8640x128_S2x512x128_0_3584_0, dma422 c f0 f2 f3 f4 f5 f8 h0 h1 h2 h3 h4 h5⟩,
   ⟨Rect.unit ![0, 3072, 0] S2x512x128.size inb_S2x8640x128_S2x512x128_0_3072_0, dma399 c f0 f2 f3 f4 f5 f8 h0 h1 h2 h3 h4 h5⟩,
   ⟨Rect.unit ![0, 2560, 0] S2x512x128.size inb_S2x8640x128_S2x512x128_0_2560_0, dma375 c f0 f2 f3 f4 f5 f8 h0 h1 h2 h3 h4 h5⟩,
   ⟨Rect.unit ![0, 2048, 0] S2x512x128.size inb_S2x8640x128_S2x512x128_0_2048_0, dma351 c f0 f2 f3 f4 f5 f8 h0 h1 h2 h3 h4 h5⟩,
   ⟨Rect.unit ![0, 1536, 0] S2x512x128.size inb_S2x8640x128_S2x512x128_0_1536_0, dma327 c f0 f2 f3 f4 f5 f8 h0 h1 h2 h3 h4 h5⟩,
   ⟨Rect.unit ![0, 1024, 0] S2x512x128.size inb_S2x8640x128_S2x512x128_0_1024_0, dma304 c f0 f2 f3 f4 f5 f8 h0 h1 h2 h3 h4 h5⟩,
   ⟨Rect.unit ![0, 512, 0] S2x512x128.size inb_S2x8640x128_S2x512x128_0_512_0, dma280 c f0 f2 f3 f4 f5 f8 h0 h1 h2 h3 h4 h5⟩,
   ⟨Rect.unit ![0, 0, 0] S2x512x128.size inb_S2x8640x128_S2x512x128_0_0_0, dma256 c f0 f2 f3 f4 f5 f8 h0 h1 h2 h3 h4 h5⟩]

theorem one_more {G : S2x8640x128.Idx → EReal} {L : List (View.Piece (Elt Ideal) S2x8640x128 .bf16)} {r : Rect S2x8640x128}
    {w : r.shape.Idx → EReal} (h : ∀ x, w x = G (r.emb x)) (hL : View.PiecesOf G L) : View.PiecesOf G (⟨r, w⟩ :: L) := ⟨h, hL⟩

theorem bands_of : View.PiecesOf (Y0 c h0 h1 h2 h3 h4 h5) (bands c f0 f2 f3 f4 f5 f8 h0 h1 h2 h3 h4 h5) := by
  unfold bands
  refine one_more (sent_16 c f0 f2 f3 f4 f5 f8 h0 h1 h2 h3 h4 h5) ?_
  refine one_more (sent_15 c f0 f2 f3 f4 f5 f8 h0 h1 h2 h3 h4 h5) ?_
  refine one_more (sent_14 c f0 f2 f3 f4 f5 f8 h0 h1 h2 h3 h4 h5) ?_
  refine one_more (sent_13 c f0 f2 f3 f4 f5 f8 h0 h1 h2 h3 h4 h5) ?_
  refine one_more (sent_12 c f0 f2 f3 f4 f5 f8 h0 h1 h2 h3 h4 h5) ?_
  refine one_more (sent_11 c f0 f2 f3 f4 f5 f8 h0 h1 h2 h3 h4 h5) ?_
  refine one_more (sent_10 c f0 f2 f3 f4 f5 f8 h0 h1 h2 h3 h4 h5) ?_
  refine one_more (sent_9 c f0 f2 f3 f4 f5 f8 h0 h1 h2 h3 h4 h5) ?_
  refine one_more (sent_8 c f0 f2 f3 f4 f5 f8 h0 h1 h2 h3 h4 h5) ?_
  refine one_more (sent_7 c f0 f2 f3 f4 f5 f8 h0 h1 h2 h3 h4 h5) ?_
  refine one_more (sent_6 c f0 f2 f3 f4 f5 f8 h0 h1 h2 h3 h4 h5) ?_
  refine one_more (sent_5 c f0 f2 f3 f4 f5 f8 h0 h1 h2 h3 h4 h5) ?_
  refine one_more (sent_4 c f0 f2 f3 f4 f5 f8 h0 h1 h2 h3 h4 h5) ?_
  refine one_more (sent_3 c f0 f2 f3 f4 f5 f8 h0 h1 h2 h3 h4 h5) ?_
  refine one_more (sent_2 c f0 f2 f3 f4 f5 f8 h0 h1 h2 h3 h4 h5) ?_
  refine one_more (sent_1 c f0 f2 f3 f4 f5 f8 h0 h1 h2 h3 h4 h5) ?_
  refine one_more (sent_0 c f0 f2 f3 f4 f5 f8 h0 h1 h2 h3 h4 h5) ?_
  trivial

theorem bands_cover (y : S2x8640x128.Idx) : ∃ p ∈ bands c f0 f2 f3 f4 f5 f8 h0 h1 h2 h3 h4 h5, y ∈ p.1.set :=
  View.cover_of_tiledBy _ ![2, 64, 128] (by sl_kernel_rfl) y

/-- What the body leaves in its three results. -/
theorem body_value : (kernelRun0 (F := Ideal) c f0 f1 f2 f3 f4 f5 f6 f7 f8 f9 f10 f11 f12 h0 h1 h2 h3 h4 h5 h6 h7 h8).1
    = ((Y0 c h0 h1 h2 h3 h4 h5 : S2x8640x128.Idx → EReal), (of3 (code (X0 c h0)) : S2x2880x128.Idx → EReal),
      (of2 (xs (X0 c h0)) : S2x128.Idx → EReal)) := by
  have hy : hM6.view.writes (Elt Ideal) h6 (bands c f0 f2 f3 f4 f5 f8 h0 h1 h2 h3 h4 h5) = Y0 c h0 h1 h2 h3 h4 h5 :=
    (View.read_whole _ _).symm.trans (read_stored hM6.view h6 (bands c f0 f2 f3 f4 f5 f8 h0 h1 h2 h3 h4 h5) _ (bands_of c f0 f2 f3 f4 f5 f8 h0 h1 h2 h3 h4 h5) (bands_cover c f0 f2 f3 f4 f5 f8 h0 h1 h2 h3 h4 h5))
  have hc : View.write (Elt Ideal) hM7.view h7 (dma232 c f0 f6 h0) Finset.univ = (of3 (code (X0 c h0)) : S2x2880x128.Idx → EReal) :=
    (View.write_whole_univ _ _ _).trans (codes_eq c f0 h0 f6)
  have hs : View.write (Elt Ideal) hM8.view h8 (dma232_1 c f0 f7 h0) Finset.univ = (of2 (xs (X0 c h0)) : S2x128.Idx → EReal) :=
    (View.write_whole_univ _ _ _).trans (scales_eq c f0 h0 f7)
  exact congrArg₂ Prod.mk hy (congrArg₂ Prod.mk hc hs)

end

end Cert.KernelIdeal.Value

end

end
-- ==== Proof.KernelIdealValue.lean ====
/-
  The program's run with the values of its results.
-/
module

public import proofs.«01_k».proof.Proof.Gen.KernelIdeal.Frame
public import proofs.«01_k».proof.Proof.KernelIdealRun
public import proofs.«01_k».proof.Proof.KernelIdealFrame
public import proofs.«01_k».proof.Proof.ValueBody
public import Idealize.ShloMosaic.Lib.Pipeline.FrameSuffixV

@[expose] public section

noncomputable section

namespace Cert.KernelIdeal.Value

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The three results as the body leaves them, from the operands it finds. -/
abbrev Yv (c : Dev nD) : S2x8640x128.Idx → EReal :=
  Y0 c (V m c main_v0) (V m c main_v1) (V m c main_arg2) (V m c main_v2) (V m c main_arg4) (V m c main_v3)
abbrev Cv (c : Dev nD) : S2x2880x128.Idx → EReal := Math.of3 (Math.code (X0 c (V m c main_v0)))
abbrev Sv (c : Dev nD) : S2x128.Idx → EReal := Math.of2 (Math.xs (X0 c (V m c main_v0)))

/-- Every buffer as the body leaves it. -/
def G (c : Dev nD) : (b : Ref sig .tc) → Buf (Elt Ideal) ((c : Thread nD τ).loc b) :=
  Function.update (Function.update (Function.update (V m c) main_v4_0 (Yv m c)) main_v4_1 (Cv m c)) main_v4_2 (Sv m c)
theorem G_y (c : Dev nD) : G m c main_v4_0 = Yv m c := by
  unfold G
  rw [Function.update_of_ne (by decide), Function.update_of_ne (by decide), Function.update_self]
theorem G_codes (c : Dev nD) : G m c main_v4_1 = Cv m c := by
  unfold G
  rw [Function.update_of_ne (by decide), Function.update_self]
theorem G_scales (c : Dev nD) : G m c main_v4_2 = Sv m c := by
  unfold G
  rw [Function.update_self]

theorem PhiDRV_eq (c : Dev nD) (U : (c : Dev nD) → (b : Ref sig .tc) → Buf (Elt Ideal) ((c : Thread nD τ).loc b)) :
    (Pipeline.ΦDRV osem0 (cfg0.spec) H0 R0 (V m) U c : sProp 𝕄)
      = iprop(iprop((∃ f, ptAt c sM0 f) ∗ (∃ f, ptAt c sM1 f) ∗ (∃ f, ptAt c sM2 f) ∗ (∃ f, ptAt c sM3 f) ∗ (∃ f, ptAt c sM4 f) ∗ (∃ f, ptAt c sM5 f) ∗ (∃ f, ptAt c sM6 f) ∗ (∃ f, ptAt c sM7 f) ∗ (∃ f, ptAt c sM8 f) ∗ (∃ f, ptAt c sM9 f) ∗ (∃ f, ptAt c sM10 f) ∗ (∃ f, ptAt c sM11 f) ∗ (∃ f, ptAt c sM12 f))
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
          ∗ iprop(ptAt c hM0 (V m c main_v0) ∗ ptAt c hM1 (V m c main_v1) ∗ ptAt c hM2 (V m c main_arg2) ∗ ptAt c hM3 (V m c main_v2) ∗ ptAt c hM4 (V m c main_arg4) ∗ ptAt c hM5 (V m c main_v3))
          ∗ iprop(ptAt c hM6 (U c main_v4_0) ∗ ptAt c hM7 (U c main_v4_1) ∗ ptAt c hM8 (U c main_v4_2))) := by
  unfold Pipeline.ΦDRV; rw [scopedRest0_eq, ownSems00_eq, hbmPts0_eq, resPts0_eq]; try rfl

/-- The invariant: the results as found, then as the body leaves them. -/
def vdats (_ : Fin 1) (c : Dev nD) : Dat τ (Elt Ideal) Unit ℕ (Pipeline.UD sig nD τ) ℕ cfg0 c where
  A w := w.elim0
  after w t := w.elim0
  Φ t := if t.val = 0 then Pipeline.ΦDRV osem0 (cfg0.spec) H0 R0 (V m) (V m) c else Pipeline.ΦDRV osem0 (cfg0.spec) H0 R0 (V m) (G m) c
  q _ := fullShare
  owed _ := 0

theorem Phi_start (c : Dev nD) (t : Fin cfg0.N) :
    (vdats m 0 c).Φ t.castSucc = Pipeline.ΦDRV osem0 (cfg0.spec) H0 R0 (V m) (V m) c :=
  if_pos (by have h : t.val < 1 := t.isLt; change t.val = 0; omega)
theorem Phi_stop (c : Dev nD) (t : Fin cfg0.N) :
    (vdats m 0 c).Φ t.succ = Pipeline.ΦDRV osem0 (cfg0.spec) H0 R0 (V m) (G m) c :=
  by
  change (if t.val + 1 = 0 then Pipeline.ΦDRV osem0 (cfg0.spec) H0 R0 (V m) (V m) c else Pipeline.ΦDRV osem0 (cfg0.spec) H0 R0 (V m) (G m) c) = _
  exact if_neg (Nat.succ_ne_zero _)

def vbodyPre (c : Dev nD) (t : Fin cfg0.N) : sProp 𝕄 :=
  iprop((vdats m 0 c).Φ t.castSucc ∗ (vdats m 0 c).owesAt () t.castSucc ∗ BI.emp)
def vbodyPost (c : Dev nD) (t : Fin cfg0.N) : sProp 𝕄 :=
  iprop((vdats m 0 c).Φ t.succ ∗ (vdats m 0 c).owesAt () t.succ ∗ BI.emp)

theorem sound_vbody (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  rw [Phi_start, Phi_stop, PhiDRV_eq, PhiDRV_eq, G_y, G_codes, G_scales]
  unfold Dat.owesAt Pipeline.owesWithin
  rw [show (vdats m 0 c).owed t.castSucc = 0 from rfl, show (vdats m 0 c).owed t.succ = 0 from rfl]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40⟩, ⟨H0, H1, H2, H3, H4, H5⟩, ⟨H6, H7, H8⟩⟩, ⟨%W, -, HW⟩, He⟩
  have hv := body_value c f0 f1 f2 f3 f4 f5 f6 f7 f8 f9 f10 f11 f12 (V m c main_v0) (V m c main_v1) (V m c main_arg2) (V m c main_v2) (V m c main_arg4) (V m c main_v3) (V m c main_v4_0) (V m c main_v4_1) (V m c main_v4_2)
  have ey : _ = Yv m c := congrArg Prod.fst hv
  have ec : _ = Cv m c := congrArg (fun p => p.2.1) hv
  have es : _ = Sv m c := congrArg (fun p => p.2.2) hv
  clear hv
  iapply ((kernelRun0 c f0 f1 f2 f3 f4 f5 f6 f7 f8 f9 f10 f11 f12 (V m c main_v0) (V m c main_v1) (V m c main_arg2) (V m c main_v2) (V m c main_arg4) (V m c main_v3) (V m c main_v4_0) (V m c main_v4_1) (V m c main_v4_2)).2 W _)
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [HW]; · iexact HW
  iintro ⟨S0, S1, S2, S3, S4, S5, S6, S7, S8, S9, S10, S11, S12, H0, H1, H2, H3, H4, H5, H6, H7, H8, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, ⟨%W', HW'⟩⟩
  isplitl [S0 S1 S2 S3 S4 S5 S6 S7 S8 S9 S10 S11 S12 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 H0 H1 H2 H3 H4 H5 H6 H7 H8]
  · isplitl [S0 S1 S2 S3 S4 S5 S6 S7 S8 S9 S10 S11 S12]
    · iframe S0 S1 S2 S3 S4 S5 S6 S7 S8 S9 S10 S11 S12
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40]
    · iframe Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40
    isplitl [H0 H1 H2 H3 H4 H5]
    · iframe H0 H1 H2 H3 H4 H5
    isplitl [H6]; · rw [← ey]; iexact H6
    isplitl [H7]; · rw [← ec]; iexact H7
    rw [← es]; iexact H8
  isplitl [HW']
  · iexists W'; isplitr; · ipureintro; exact fun _ _ => Or.inl trivial
    iexact HW'
  iexact He

theorem vbody_obligation (c : Dev nD) : BodyObligation (vdats m 0 c) (defs₀ (F := Ideal)) Variants.none () Set.univ := fun t => by
  rw [show (Finset.univ : Finset (Fin cfg0.W)) = ∅ from rfl, BI.bigSep_empty, BI.bigSep_empty, defs₀_row]
  exact triple_restated (sound_vbody m c t) rfl .rfl fun _ => .rfl

/-- What every buffer outside the body holds at the end. -/
abbrev endV (c : Dev nD) : Valuation τ sig (Elt Ideal) :=
  StableHlo.after (List.flatten [hostOps1]) (Pipeline.withArrays (cfg0.spec) c (Pipeline.withR (V0 m c) R0 c (G m c))
    fun w => (vdats m 0 c).arrAt w cfg0.N)

set_option backward.isDefEq.respectTransparency.types false in
theorem run_value : θ_run defs (onTc (τ := τ) (main (F := Ideal))) (s₀ m ρ)
    (fun r => ∀ c : Dev nD, ∀ b ∈ Pipeline.restRefs sig (cfg0.spec), r.2.mem ((c.tc : Thread nD τ).loc b) = endV m c (Proc.devRef .tc b)) :=
  Pipeline.θ_run_frame_dmaR_aroundV cfgs (vdats m) (0 : Fin 1) launch0 osem0 defs₀ Variants.none ownSemFacts0 H0 R0 H0_sub R0_sub m ρ main
    (hbody := fun c => (vbody_obligation m c).loose) (hshare := fun c => (vdats m 0 c).share_full fun _ => rfl)
    (howed := fun _ _ => rfl) (V₀ := V0 m) (opss := [hostOps1]) (hsub := sfx_sub) (hfresh := sfx_fresh) (hkeep := sfx_keeps)
    (G := G m) (hmain := hmainD m Variants.none) (hA := fun _ w => w.elim0)
    (hin := fun c => Entails.of_eq (Phi_start m c t0_0).symm) (hout := fun c => Entails.of_eq (Phi_stop m c t0_0))
    (Q' := fun r => ∀ c : Dev nD, ∀ b ∈ Pipeline.restRefs sig (cfg0.spec),
      r.2.mem ((c.tc : Thread nD τ).loc b) = endV m c (Proc.devRef .tc b)) (hQ' := fun _ h c => (h.1 c).2)

end Cert.KernelIdeal.Value

end
-- ==== Proof.KernelIdealEnd.lean ====
/-
  The results the program returns, from its arguments.
-/
module

public import proofs.«01_k».proof.Proof.KernelIdealValue

@[expose] public section

noncomputable section

namespace Cert.KernelIdeal.Value

open Cert.KernelIdeal Cert.KernelIdeal.Gen Cert.KernelIdeal.Hand
open Idealize.ShloMosaic Idealize.ShloMosaic.TcCoe Idealize.ShloMosaic.Tactic
open Cert.Math

variable (m : (ℓ : Loc nD τ sig) → Buf (Elt Ideal) ℓ)

/-- The contents of an argument. -/
abbrev arg (c : Dev nD) (b : Ref sig .tc) : Buf (Elt Ideal) ((c : Thread nD τ).loc b) := m ((c : Thread nD τ).loc b)

/-- A buffer the region neither stages nor writes is as it was found. -/
theorem past (c : Dev nD) (A) (b : Ref sig .tc) (h : b ∉ R0) :
    Pipeline.withArrays (cfg0.spec) c (Pipeline.withR (V0 m c) R0 c (G m c)) A (Proc.devRef .tc b) = V m c b := by
  rw [Pipeline.withArrays_of_ne _ _ _ _ _ fun w => w.elim0, Pipeline.withR_of_not_mem _ _ _ _ b h]

theorem past_res (c : Dev nD) (A) (b : Ref sig .tc) (h : b ∈ R0) :
    Pipeline.withArrays (cfg0.spec) c (Pipeline.withR (V0 m c) R0 c (G m c)) A (Proc.devRef .tc b) = G m c b := by
  rw [Pipeline.withArrays_of_ne _ _ _ _ _ fun w => w.elim0, Pipeline.withR_of_mem _ _ _ _ b h]

theorem end_y (c : Dev nD) : endV m c (Proc.devRef .tc main_v5)
    = transpose S2x128x8640 [0, 2, 1] (Yv m c : FVec Ideal S2x8640x128 .bf16) transposes_S2x8640x128_S2x128x8640_0_2_1 := by
  unfold endV
  simp only [hostOps1, List.flatten_cons, List.flatten_nil, List.append_nil, List.cons_append, List.nil_append]
  after_results
  rw [past_res m c _ main_v4_0 (by decide), G_y]

theorem end_codes (c : Dev nD) : endV m c (Proc.devRef .tc main_v6)
    = transpose S2x128x2880 [0, 2, 1] (Cv m c : FVec Ideal S2x2880x128 .fp8e4m3) transposes_S2x2880x128_S2x128x2880_0_2_1 := by
  unfold endV
  simp only [hostOps1, List.flatten_cons, List.flatten_nil, List.append_nil, List.cons_append, List.nil_append]
  after_results
  rw [past_res m c _ main_v4_1 (by decide), G_codes]

theorem end_scales (c : Dev nD) : endV m c (Proc.devRef .tc main_v4_2) = Sv m c := by
  unfold endV
  simp only [hostOps1, List.flatten_cons, List.flatten_nil, List.append_nil, List.cons_append, List.nil_append]
  after_results
  rw [past_res m c _ main_v4_2 (by decide), G_scales]

/-- The region's operands, from the arguments. -/
theorem V_x (c : Dev nD) : V m c main_v0
    = transpose S2x2880x128 [0, 2, 1] (arg m c main_arg0 : FVec Ideal S2x128x2880 .bf16) transposes_S2x128x2880_S2x2880x128_0_2_1 := by
  unfold V V0
  simp only [hostOps0, List.flatten_cons, List.flatten_nil, List.append_nil, List.cons_append, List.nil_append]
  after_results
theorem V_w (c : Dev nD) : V m c main_v1
    = transpose S2880x8640 [1, 0] (arg m c main_arg1 : FVec Ideal S8640x2880 .fp8e4m3) transposes_S8640x2880_S2880x8640_1_0 := by
  unfold V V0
  simp only [hostOps0, List.flatten_cons, List.flatten_nil, List.append_nil, List.cons_append, List.nil_append]
  after_results
theorem V_c (c : Dev nD) : V m c main_v2
    = transpose S12x18 [1, 0] (arg m c main_arg3 : FVec Ideal S18x12 .bf16) transposes_S18x12_S12x18_1_0 := by
  unfold V V0
  simp only [hostOps0, List.flatten_cons, List.flatten_nil, List.append_nil, List.cons_append, List.nil_append]
  after_results
theorem V_up (c : Dev nD) : V m c main_v3
    = transpose S40x480 [1, 0] (arg m c main_arg5 : FVec Ideal S480x40 .bf16) transposes_S480x40_S40x480_1_0 := by
  unfold V V0
  simp only [hostOps0, List.flatten_cons, List.flatten_nil, List.append_nil, List.cons_append, List.nil_append]
  after_results

/-! ## The arguments at coordinates -/

/-- The six arguments: `X b d s`, `W d n`, `ws n`, `C p a`, `Dn r d`, `Up o r`. -/
abbrev Xm (c : Dev nD) (b d s : ℕ) : EReal := at3 (arg m c main_arg0 : S2x128x2880.Idx → EReal) b s d
abbrev Wm (c : Dev nD) (d n : ℕ) : EReal := at2 (arg m c main_arg1 : S8640x2880.Idx → EReal) n d
abbrev Sm (c : Dev nD) (n : ℕ) : EReal := at1 (arg m c main_arg2 : S8640.Idx → EReal) n
abbrev Cm (c : Dev nD) (p a : ℕ) : EReal := at2 (arg m c main_arg3 : S18x12.Idx → EReal) a p
abbrev Dm (c : Dev nD) (r d : ℕ) : EReal := at2 (arg m c main_arg4 : S40x240.Idx → EReal) r d
abbrev Um (c : Dev nD) (o r : ℕ) : EReal := at2 (arg m c main_arg5 : S480x40.Idx → EReal) o r

theorem at2_swap {a b : ℕ} (v : FVec Ideal ⟨2, ![a, b]⟩ .bf16) (h) (i j : ℕ) :
    at2 (transpose ⟨2, ![b, a]⟩ [1, 0] v h : (⟨2, ![b, a]⟩ : Shape).Idx → EReal) i j = at2 (v : (⟨2, ![a, b]⟩ : Shape).Idx → EReal) j i := by
  unfold at2
  by_cases hi : i < b <;> by_cases hj : j < a <;> simp only [hi, hj, and_self, and_true, true_and, and_false, false_and, dite_true, dite_false, reduceDIte]
  exact congrArg v (funext fun k => Fin.ext (by match k with | 0 => rfl | 1 => rfl))

theorem X_eq (c : Dev nD) : X0 c (V m c main_v0) = Xm m c := by
  funext b d s
  change at3 (V m c main_v0 : S2x2880x128.Idx → EReal) b d s = at3 (arg m c main_arg0 : S2x128x2880.Idx → EReal) b s d
  rw [V_x]
  unfold at3
  by_cases hb : b < 2 <;> by_cases hd : d < 2880 <;> by_cases hs : s < 128 <;>
    simp only [hb, hd, hs, and_self, and_true, true_and, and_false, false_and, dite_true, dite_false, reduceDIte]
  pointwise

theorem W_eq (c : Dev nD) : W0 c (V m c main_v1) = Wm m c := by
  funext d n
  change at2 (V m c main_v1 : S2880x8640.Idx → EReal) d n = _
  rw [V_w]
  exact at2_swap (arg m c main_arg1 : FVec Ideal S8640x2880 .bf16) transposes_S8640x2880_S2880x8640_1_0 d n

theorem C_eq (c : Dev nD) : C0 c (V m c main_v2) = Cm m c := by
  funext p a
  change at2 (V m c main_v2 : S12x18.Idx → EReal) p a = _
  rw [V_c]
  exact at2_swap (arg m c main_arg3 : FVec Ideal S18x12 .bf16) transposes_S18x12_S12x18_1_0 p a

theorem U_eq (c : Dev nD) : U0 c (V m c main_v3) = Um m c := by
  funext o r
  change at2 (V m c main_v3 : S40x480.Idx → EReal) r o = _
  rw [V_up]
  exact at2_swap (arg m c main_arg5 : FVec Ideal S480x40 .bf16) transposes_S480x40_S40x480_1_0 r o

theorem D_eq (c : Dev nD) : D0 c (V m c main_arg4) = Dm m c := by
  funext r d
  change at2 (V m c main_arg4 : S40x240.Idx → EReal) r d = _
  rw [V_main_arg4]

theorem S_eq (c : Dev nD) : S0 c (V m c main_arg2) = Sm m c := by
  funext n
  change at1 (V m c main_arg2 : S8640.Idx → EReal) n = _
  rw [V_main_arg2]

/-! ## The results -/

/-- Row `s` of batch `b`, column `n`. -/
def yOf (c : Dev nD) : S2x128x8640.Idx → EReal := fun i =>
  out (Xm m c) (Wm m c) (Sm m c) (Cm m c) (Dm m c) (Um m c) (i 0).val (i 2).val (i 1).val
def codesOf (c : Dev nD) : S2x128x2880.Idx → EReal := fun i => code (Xm m c) (i 0).val (i 2).val (i 1).val
def scalesOf (c : Dev nD) : S2x128.Idx → EReal := fun i => xs (Xm m c) (i 0).val (i 1).val

theorem end_y' (c : Dev nD) : endV m c (Proc.devRef .tc main_v5) = yOf m c := by
  rw [end_y]
  unfold Yv Y0
  rw [X_eq, W_eq, C_eq, U_eq, D_eq, S_eq]
  funext i
  obtain ⟨b, s, n, rfl⟩ : ∃ (b : Fin 2) (s : Fin 128) (n : Fin 8640), i = ix3 b s n := ⟨i 0, i 1, i 2, eq_ix3 i⟩
  pointwise
  rfl

theorem end_codes' (c : Dev nD) : endV m c (Proc.devRef .tc main_v6) = codesOf m c := by
  rw [end_codes]
  unfold Cv
  rw [X_eq]
  funext i
  obtain ⟨b, s, d, rfl⟩ : ∃ (b : Fin 2) (s : Fin 128) (d : Fin 2880), i = ix3 b s d := ⟨i 0, i 1, i 2, eq_ix3 i⟩
  pointwise
  rfl

theorem end_scales' (c : Dev nD) : endV m c (Proc.devRef .tc main_v4_2) = scalesOf m c := by
  rw [end_scales]
  unfold Sv
  rw [X_eq]
  rfl

/-! The arguments are as launched: no operation writes them. -/

theorem end_arg0 (c : Dev nD) : endV m c (Proc.devRef .tc main_arg0) = arg m c main_arg0 := by
  unfold endV
  simp only [hostOps1, List.flatten_cons, List.flatten_nil, List.append_nil, List.cons_append, List.nil_append]
  after_results
  rw [past m c _ main_arg0 (by decide), V_main_arg0]
theorem end_arg1 (c : Dev nD) : endV m c (Proc.devRef .tc main_arg1) = arg m c main_arg1 := by
  unfold endV
  simp only [hostOps1, List.flatten_cons, List.flatten_nil, List.append_nil, List.cons_append, List.nil_append]
  after_results
  rw [past m c _ main_arg1 (by decide), V_main_arg1]
theorem end_arg2 (c : Dev nD) : endV m c (Proc.devRef .tc main_arg2) = arg m c main_arg2 := by
  unfold endV
  simp only [hostOps1, List.flatten_cons, List.flatten_nil, List.append_nil, List.cons_append, List.nil_append]
  after_results
  rw [past m c _ main_arg2 (by decide), V_main_arg2]
theorem end_arg3 (c : Dev nD) : endV m c (Proc.devRef .tc main_arg3) = arg m c main_arg3 := by
  unfold endV
  simp only [hostOps1, List.flatten_cons, List.flatten_nil, List.append_nil, List.cons_append, List.nil_append]
  after_results
  rw [past m c _ main_arg3 (by decide), V_main_arg3]
theorem end_arg4 (c : Dev nD) : endV m c (Proc.devRef .tc main_arg4) = arg m c main_arg4 := by
  unfold endV
  simp only [hostOps1, List.flatten_cons, List.flatten_nil, List.append_nil, List.cons_append, List.nil_append]
  after_results
  rw [past m c _ main_arg4 (by decide), V_main_arg4]
theorem end_arg5 (c : Dev nD) : endV m c (Proc.devRef .tc main_arg5) = arg m c main_arg5 := by
  unfold endV
  simp only [hostOps1, List.flatten_cons, List.flatten_nil, List.append_nil, List.cons_append, List.nil_append]
  after_results
  rw [past m c _ main_arg5 (by decide), V_main_arg5]

variable (ρ : Dev nD → PrngReg)

/-- The program's run: its three results, and its arguments as launched. -/
theorem run_results : θ_run defs (onTc (τ := τ) (main (F := Ideal))) ⟨m, fun _ => 0, ρ⟩ (fun r => ∀ c : Dev nD,
    r.2.mem ((c.tc : Thread nD τ).loc main_v5) = yOf m c
    ∧ r.2.mem ((c.tc : Thread nD τ).loc main_v6) = codesOf m c
    ∧ r.2.mem ((c.tc : Thread nD τ).loc main_v4_2) = scalesOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c =>
    ⟨(h c main_v5 (Pipeline.mem_restRefs_of main_v5 (by decide) (by decide))).trans (end_y' m c),
      (h c main_v6 (Pipeline.mem_restRefs_of main_v6 (by decide) (by decide))).trans (end_codes' m c),
      (h c main_v4_2 (Pipeline.mem_restRefs_of main_v4_2 (by decide) (by decide))).trans (end_scales' m c),
      (h c main_arg0 (Pipeline.mem_restRefs_of main_arg0 (by decide) (by decide))).trans (end_arg0 m c),
      (h c main_arg1 (Pipeline.mem_restRefs_of main_arg1 (by decide) (by decide))).trans (end_arg1 m c),
      (h c main_arg2 (Pipeline.mem_restRefs_of main_arg2 (by decide) (by decide))).trans (end_arg2 m c),
      (h c main_arg3 (Pipeline.mem_restRefs_of main_arg3 (by decide) (by decide))).trans (end_arg3 m c),
      (h c main_arg4 (Pipeline.mem_restRefs_of main_arg4 (by decide) (by decide))).trans (end_arg4 m c),
      (h c main_arg5 (Pipeline.mem_restRefs_of main_arg5 (by decide) (by decide))).trans (end_arg5 m c)⟩) (run_value m ρ)

end Cert.KernelIdeal.Value

end
-- ==== Proof.ReferenceIdealValue.lean ====
/-
  The reference's results, from its arguments.
-/
module

public import proofs.«01_k».proof.Proof.Gen.ReferenceIdeal.Frame
public import proofs.«01_k».proof.Proof.ValueBase

@[expose] public section

noncomputable section

namespace Cert.ReferenceIdeal.Value

open Cert.ReferenceIdeal Cert.ReferenceIdeal.Gen
open Idealize.ShloMosaic Idealize.ShloMosaic.TcCoe Idealize.ShloMosaic.Tactic
open Cert.Math

/-! ## The constants -/

theorem bot_f32 : Ideal.ofBits .f32 4286578688#32 = ⊥ := by
  simp [Ideal.ofBits, Ideal.ieee]

theorem bot_bf16 : Ideal.ofBits .bf16 65408#16 = ⊥ := by
  simp [Ideal.ofBits, Ideal.ieee]

theorem c126 : Ideal.ofBits .f32 1123811328#32 = ((126 : ℝ) : EReal) := by
  simp [Ideal.ofBits, Ideal.ieee]
  rw [← EReal.coe_mul]
  norm_num

theorem c127 : Ideal.ofBits .f32 3271426048#32 = ((-127 : ℝ) : EReal) := by
  simp [Ideal.ofBits, Ideal.ieee]
  rw [← EReal.coe_mul]
  norm_num

theorem least : Ideal.ofBits .f32 8388608#32 = (((2 : ℝ) ^ (-126 : ℤ) : ℝ) : EReal) := by
  have h := word_mid 1 (by omega) (by omega)
  rwa [show ((1 : ℕ) : ℤ) - 127 = -126 by norm_num] at h

theorem table (x : Fin 254) : FloatOps.sitofp (F := Ideal) .f32 (BitVec.ofNat 32 x.val) - Ideal.ofBits .f32 1123811328#32
    = ((((x : ℕ) : ℝ) - 126 : ℝ) : EReal) := by
  have h : ∀ x : Fin 254, (BitVec.ofNat 32 x.val).toInt = x.val := by decide +kernel
  rw [c126]
  change (((BitVec.ofNat 32 x.val).toInt : ℝ) : EReal) - _ = _
  rw [h x, ← EReal.coe_sub]
  norm_num

/-! ## The body at an index -/

section Body

variable (X : ℕ → ℕ → ℕ → EReal) (x : FVec Ideal S2x128x2880 .bf16)
  (hx : ∀ (b : Fin 2) (s : Fin 128) (d : Fin 2880), x (ix3 b s d) = X b d s)

include hx in
theorem exp_at (b : Fin 2) (s : Fin 128) : k0_pay3 (F := Ideal) x (ix3 b s 0) = refExp (level X b s) := by
  pointwise [k0_pay3, k0_pay2]
  simp only [bot_f32, c127, least, table, hx]
  rw [refExp, top, level, bot_bf16]
  rfl

include hx in
theorem scales_at (b : Fin 2) (s : Fin 128) :
    (k0_pay6 (F := Ideal) x : FVec Ideal S2x128 .f32) (ix2 b s) = Ideal.exp2 (refExp (level X b s)) := by
  pointwise [k0_pay6, k0_pay4]
  rw [exp_at X x hx]
  rfl

include hx in
theorem codes_at (b : Fin 2) (s : Fin 128) (d : Fin 2880) : (k0_pay5 (F := Ideal) x : FVec Ideal S2x128x2880 .fp8e4m3) (ix3 b s d)
    = min (Ideal.ofBits .f32 1138753536#32) (max (Ideal.ofBits .f32 3286237184#32) (X b d s * Ideal.exp2 (0 - refExp (level X b s)))) := by
  pointwise [k0_pay5, k0_pay2]
  rw [exp_at X x hx, hx]
  rfl

include hx in
theorem y_at (w : FVec Ideal S8640x2880 .fp8e4m3) (ws : FVec Ideal S1x1x8640 .f32) (u : FVec Ideal S2x128x8640 .f32)
    (b : Fin 2) (s : Fin 128) (n : Fin 8640) :
    (k0_pay1 (F := Ideal) (k0_pay4 (F := Ideal) x) (k0_pay5 (F := Ideal) x) w ws u : FVec Ideal S2x128x8640 .bf16) (ix3 b s n)
      = (∑ d : Fin 2880, min (Ideal.ofBits .f32 1138753536#32) (max (Ideal.ofBits .f32 3286237184#32)
          (X b d s * Ideal.exp2 (0 - refExp (level X b s)))) * w (ix2 n d)) * Ideal.exp2 (refExp (level X b s)) * ws (ix3 0 0 n)
        + Ideal.ofBits .f32 1053609165#32 * u (ix3 b s n) := by
  have h4 : k0_pay4 (F := Ideal) x (ix3 b s 0) = Ideal.exp2 (refExp (level X b s)) := by
    rw [← exp_at X x hx, k0_pay4]
    pointwise
    rfl
  pointwise [k0_pay1]
  rw [h4]
  simp only [codes_at X x hx]

end Body

end Cert.ReferenceIdeal.Value

end
-- ==== Proof.Bound.lean ====
/-
  What the precondition gives: every row's quotient lies below 2 ^ 121.
-/
module

public import proofs.«01_k».proof.Defs
public import proofs.«01_k».proof.Proof.ValueBase
public import Idealize.ShloMosaic.Lib.ReduceAll

@[expose] public section

noncomputable section

namespace Cert.Pre_finite

open Idealize.ShloMosaic

instance facts : Facts where
  bitsLt_bf16_f32 := by decide
  bcast_S_S2x128x2880 := by decide
  reducesTo_S2x128x2880_S_d0_1_2 := by decide
  h_S_ := by decide

end Cert.Pre_finite

namespace Cert.Math

open Idealize.ShloMosaic

/-- The largest finite bfloat16. -/
theorem last_finite : Ideal.ofBits .f32 0x7F7F0000#32 = (((255 * 2 ^ 120 : ℝ)) : EReal) := by
  simp [Ideal.ofBits, Ideal.ieee]
  rw [← EReal.coe_pow, ← EReal.coe_pow, ← EReal.coe_mul, ← EReal.coe_mul]
  congr 1
  norm_num

/-- One 448th. -/
theorem c448 : Ideal.ofBits .f32 991054117#32 = (((9586981 / 2 ^ 32 : ℝ)) : EReal) := by
  simp [Ideal.ofBits, Ideal.ieee]
  try (rw [← EReal.coe_mul])
  norm_num

theorem bot_word : Ideal.ofBits .bf16 65408#16 = ⊥ := by
  simp [Ideal.ofBits, Ideal.ieee]

/-- A row of finite entries has a quotient of at least zero and below 2 ^ 121. -/
theorem level_bound (X : ℕ → ℕ → ℕ → EReal) (b s : ℕ)
    (h : ∀ d : Fin 2880, max (X b d s) (-(X b d s)) ≤ Ideal.ofBits .f32 0x7F7F0000#32) :
    0 ≤ level X b s ∧ level X b s < (((2 : ℝ) ^ (121 : ℤ) : ℝ) : EReal) := by
  have lo : (0 : EReal) ≤ Finset.univ.fold max (Ideal.ofBits .bf16 65408#16) (fun d : Fin 2880 => FloatOps.absf (F := Ideal) (φ := .bf16) (X b d s)) := by
    refine (Finset.le_fold_max _).mpr (Or.inr ⟨0, Finset.mem_univ _, ?_⟩)
    change 0 ≤ max (X b 0 s) (-(X b 0 s))
    rcases le_total 0 (X b 0 s) with h0 | h0
    · exact le_max_of_le_left h0
    · exact le_max_of_le_right (EReal.neg_nonneg.mpr h0)
  have hi : Finset.univ.fold max (Ideal.ofBits .bf16 65408#16) (fun d : Fin 2880 => FloatOps.absf (F := Ideal) (φ := .bf16) (X b d s))
      ≤ Ideal.ofBits .f32 0x7F7F0000#32 := by
    refine (Finset.fold_max_le _).mpr ⟨by rw [bot_word]; exact bot_le, fun d _ => h d⟩
  rw [last_finite] at hi
  unfold level
  generalize Finset.univ.fold max (Ideal.ofBits .bf16 65408#16) (fun d : Fin 2880 => FloatOps.absf (F := Ideal) (φ := .bf16) (X b d s)) = a at lo hi
  lift a to ℝ using ⟨ne_top_of_le_ne_top (EReal.coe_ne_top _) hi, ne_bot_of_le_ne_bot (by exact EReal.zero_ne_bot) lo⟩
  rw [c448, ← EReal.coe_mul]
  have lo' : (0 : ℝ) ≤ a := by exact_mod_cast lo
  have hi' : a ≤ 255 * 2 ^ 120 := by exact_mod_cast hi
  constructor
  · exact_mod_cast (by positivity : (0 : ℝ) ≤ a * (9586981 / 2 ^ 32))
  · rw [EReal.coe_lt_coe_iff]
    calc a * (9586981 / 2 ^ 32) ≤ 255 * 2 ^ 120 * (9586981 / 2 ^ 32) := by gcongr
      _ < _ := by norm_num

end Cert.Math

namespace Cert.KernelIdeal.Value

open Cert.KernelIdeal Cert.Math
open Idealize.ShloMosaic Idealize.ShloMosaic.TcCoe

/-- Under the precondition no entry exceeds the largest finite bfloat16 in magnitude. -/
theorem entries_finite (x : FVec Ideal S2x128x2880 .bf16) (w ws c dn up)
    (h : Cert.Pre_finite.fn (F := Ideal) x w ws c dn up = fun _ => 1#1) (i : S2x128x2880.Idx) :
    max (x i : EReal) (-(x i : EReal)) ≤ Ideal.ofBits .f32 0x7F7F0000#32 := by
  have : Subsingleton Cert.Pre_finite.S_.Idx := ⟨fun a b => funext fun k => k.elim0⟩
  have h1 := Host.reduce_andi_all _ _ _ _ (fun k => k.elim0) (congrFun h (fun k => k.elim0)) i
  have h2 : (max (x i : EReal) (-(x i : EReal)) ≤ Ideal.ofBits .f32 0x7F7F0000#32) := by
    by_contra hc
    have : Ideal.cmp .ole (max (x i : EReal) (-(x i : EReal))) (Ideal.ofBits .f32 0x7F7F0000#32) = 1#1 := h1
    simp [Ideal.cmp, hc] at this
  exact h2

end Cert.KernelIdeal.Value

end
-- ==== Proof.ReferenceIdealEnd.lean ====
/-
  The reference's run: its three results are the numbers of the kernel's side, over its own arguments, where every entry
  of the input is finite.
-/
module

public import proofs.«01_k».proof.Proof.ReferenceIdealValue
public import proofs.«01_k».proof.Proof.Bound
public import proofs.«01_k».proof.Proof.Gen.ReferenceIdeal.Value

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.SL.Sem
open Cert.Math

variable (m : (ℓ : Loc nD τ sig) → Buf (Elt Ideal) ℓ) (ρ : Dev nD → PrngReg) (c : Dev nD)

/-! ## The arguments at coordinates -/

/-- The contents of an argument. -/
abbrev arg (b : Ref sig .tc) : Buf (Elt Ideal) ((c : Thread nD τ).loc b) := m ((c : Thread nD τ).loc b)

/-- The six arguments: `X b d s`, `W d n`, `ws n`, `C p a`, `Dn r d`, `Up o r`. -/
abbrev Xm (b d s : ℕ) : EReal := at3 (arg m c main_arg0 : S2x128x2880.Idx → EReal) b s d
abbrev Wm (d n : ℕ) : EReal := at2 (arg m c main_arg1 : S8640x2880.Idx → EReal) n d
abbrev Sm (n : ℕ) : EReal := at1 (arg m c main_arg2 : S8640.Idx → EReal) n
abbrev Cm (p a : ℕ) : EReal := at2 (arg m c main_arg3 : S18x12.Idx → EReal) a p
abbrev Dm (r d : ℕ) : EReal := at2 (arg m c main_arg4 : S40x240.Idx → EReal) r d
abbrev Um (o r : ℕ) : EReal := at2 (arg m c main_arg5 : S480x40.Idx → EReal) o r

/-! ## The region's operands -/

theorem V_scale (n : Fin 8640) : (V m c main_v7 : S1x1x8640.Idx → EReal) (ix3 0 0 n) = Sm m c n := by
  have h : (V m c main_v7 : S1x1x8640.Idx → EReal) (ix3 0 0 n) = (arg m c main_arg2 : S8640.Idx → EReal) (ix1 n) := by
    entry_read
    pointwise
  rw [h]
  exact at1_ix _ n

/-- The operands, with their entries read as extended reals. -/
abbrev x0 : S2x128x2880.Idx → EReal := arg m c main_arg0
abbrev c0 : S18x12.Idx → EReal := arg m c main_arg3
abbrev d0 : S40x240.Idx → EReal := arg m c main_arg4
abbrev u0 : S480x40.Idx → EReal := arg m c main_arg5
abbrev adapter : S2x128x8640.Idx → EReal := V m c main_v8

/-- The adapter's product, before its scale, is the sum over the blocks. -/
theorem V_adapter (b : Fin 2) (s : Fin 128) (n : Fin 8640) : adapter m c (ix3 b s n)
    = ∑ p : Fin 12, Cm m c p ((n : ℕ) / 480) * up (Xm m c) (Dm m c) (Um m c) p ((n : ℕ) % 480) (128 * b + s) := by
  have h : adapter m c (ix3 b s n)
      = ∑ p : Fin 12, (∑ r : Fin 40, (∑ d : Fin 240,
          x0 m c (ix3 b s ⟨(p : ℕ) * 240 + d, by omega⟩) * d0 m c (ix2 r d)) * u0 m c (ix2 ⟨(n : ℕ) % 480, by omega⟩ r))
        * c0 m c (ix2 ⟨(n : ℕ) / 480, by omega⟩ p) := by
    unfold adapter
    entry_read
    pointwise
    try rfl
  rw [h]
  refine Finset.sum_congr rfl fun p _ => ?_
  rw [mul_comm]
  refine congrArg₂ (· * ·) (at2_ix _ _ _) ?_
  unfold up
  refine Finset.sum_congr rfl fun r _ => ?_
  rw [mul_comm]
  refine congrArg₂ (· * ·) (at2_ix _ _ _) ?_
  unfold down
  refine Finset.sum_congr rfl fun d _ => ?_
  rw [mul_comm]
  refine congrArg₂ (· * ·) (at2_ix _ _ _) ?_
  rw [tok, show (128 * (b : ℕ) + s) / 128 = b by omega, show (128 * (b : ℕ) + s) % 128 = s by omega, Nat.mul_comm 240]
  exact at3_ix _ _ _ _

/-! ## The one point's blocks: each window is its whole array -/

theorem read_in0 (f : Buf (Elt Ideal) ((c : Thread nD τ).loc main_arg0)) : (win0_0.blk t0_0).view.read (Elt Ideal) f = f :=
  Memref.read_access_unit_zero (Elt Ideal) main_arg0
    (show (fun a => (win0_0.index t0_0) a * main_arg0.ty.shape.size a) = fun _ => 0 from
      funext fun a => by fin_cases a <;> decide) (fun a => by fin_cases a <;> decide) f
theorem read_in1 (f : Buf (Elt Ideal) ((c : Thread nD τ).loc main_arg1)) : (win0_1.blk t0_0).view.read (Elt Ideal) f = f :=
  Memref.read_access_unit_zero (Elt Ideal) main_arg1
    (show (fun a => (win0_1.index t0_0) a * main_arg1.ty.shape.size a) = fun _ => 0 from
      funext fun a => by fin_cases a <;> decide) (fun a => by fin_cases a <;> decide) f
theorem read_in2 (f : Buf (Elt Ideal) ((c : Thread nD τ).loc main_v7)) : (win0_2.blk t0_0).view.read (Elt Ideal) f = f :=
  Memref.read_access_unit_zero (Elt Ideal) main_v7
    (show (fun a => (win0_2.index t0_0) a * main_v7.ty.shape.size a) = fun _ => 0 from
      funext fun a => by fin_cases a <;> decide) (fun a => by fin_cases a <;> decide) f
theorem read_in3 (f : Buf (Elt Ideal) ((c : Thread nD τ).loc main_v8)) : (win0_3.blk t0_0).view.read (Elt Ideal) f = f :=
  Memref.read_access_unit_zero (Elt Ideal) main_v8
    (show (fun a => (win0_3.index t0_0) a * main_v8.ty.shape.size a) = fun _ => 0 from
      funext fun a => by fin_cases a <;> decide) (fun a => by fin_cases a <;> decide) f
theorem read_out4 (f : Buf (Elt Ideal) ((c : Thread nD τ).loc main_v9_0)) : (win0_4.blk t0_0).view.read (Elt Ideal) f = f :=
  Memref.read_access_unit_zero (Elt Ideal) main_v9_0
    (show (fun a => (win0_4.index t0_0) a * main_v9_0.ty.shape.size a) = fun _ => 0 from
      funext fun a => by fin_cases a <;> decide) (fun a => by fin_cases a <;> decide) f
theorem read_out5 (f : Buf (Elt Ideal) ((c : Thread nD τ).loc main_v9_1)) : (win0_5.blk t0_0).view.read (Elt Ideal) f = f :=
  Memref.read_access_unit_zero (Elt Ideal) main_v9_1
    (show (fun a => (win0_5.index t0_0) a * main_v9_1.ty.shape.size a) = fun _ => 0 from
      funext fun a => by fin_cases a <;> decide) (fun a => by fin_cases a <;> decide) f
theorem read_out6 (f : Buf (Elt Ideal) ((c : Thread nD τ).loc main_v9_2)) : (win0_6.blk t0_0).view.read (Elt Ideal) f = f :=
  Memref.read_access_unit_zero (Elt Ideal) main_v9_2
    (show (fun a => (win0_6.index t0_0) a * main_v9_2.ty.shape.size a) = fun _ => 0 from
      funext fun a => by fin_cases a <;> decide) (fun a => by fin_cases a <;> decide) f

theorem iblk_0 : iblk (F := Ideal) m c 0 t0_0 = arg m c main_arg0 := by
  show (win0_0.blk t0_0).view.read (Elt Ideal) (V m c main_arg0) = _
  rw [V_main_arg0]
  exact read_in0 c _
theorem iblk_1 : iblk (F := Ideal) m c 1 t0_0 = arg m c main_arg1 := by
  show (win0_1.blk t0_0).view.read (Elt Ideal) (V m c main_arg1) = _
  rw [V_main_arg1]
  exact read_in1 c _
theorem iblk_2 : iblk (F := Ideal) m c 2 t0_0 = V m c main_v7 := by
  show (win0_2.blk t0_0).view.read (Elt Ideal) (V m c main_v7) = _
  exact read_in2 c _
theorem iblk_3 : iblk (F := Ideal) m c 3 t0_0 = V m c main_v8 := by
  show (win0_3.blk t0_0).view.read (Elt Ideal) (V m c main_v8) = _
  exact read_in3 c _

/-- A load of a whole vector is the vector. -/
theorem ld_whole {s : Shape} {e : EltTy} (v : Vec Ideal s e) (off : Fin s.rank → ℕ) (inb) (h : ∀ a, off a = 0) :
    View.ld v (Rect.unit (s := s) off s.size inb) = v := by
  funext j
  refine congrArg v (funext fun a => Fin.ext ?_)
  change off a + 1 * (j a).val = (j a).val
  rw [h a]
  omega

/-- The one store covers its array, which then holds the stored value. -/
theorem canon_whole {s : Shape} {e : EltTy} (off : Fin s.rank → ℕ) (inb) (h : ∀ a, off a = 0) (p : Vec Ideal s e) :
    View.canon [(⟨Rect.unit (s := s) off s.size inb, p⟩ : View.Piece (Elt Ideal) s e)] = p := by
  have hid : ∀ j : s.Idx, (Rect.unit (s := s) off s.size inb).emb j = j := fun j => by
    refine funext fun a => Fin.ext ?_
    change off a + 1 * (j a).val = (j a).val
    rw [h a]
    omega
  funext y
  refine View.canon_apply_of_pieces p _ ?_ y ⟨_, List.mem_singleton_self _, ?_⟩
  · intro pc hpc
    obtain rfl := List.mem_singleton.1 hpc
    exact fun x => congrArg p (hid x).symm
  · refine (LoadRect.mem_set _).2 fun a => ⟨(y a).val, (y a).isLt, ?_⟩
    change (y a).val = off a + 1 * (y a).val
    rw [h a]
    omega

theorem z3 : ∀ a : Fin 3, (![0, 0, 0] : Fin 3 → ℕ) a = 0 := by decide
theorem z2 : ∀ a : Fin 2, (![0, 0] : Fin 2 → ℕ) a = 0 := by decide

theorem arr_y : (dats (F := Ideal) m 0 c).arrAt 4 cfg0.N
    = (k0_pay1 (F := Ideal) (k0_pay4 (F := Ideal) (arg m c main_arg0)) (k0_pay5 (F := Ideal) (arg m c main_arg0)) (arg m c main_arg1)
        (V m c main_v7) (V m c main_v8) : S2x128x8640.Idx → EReal) := by
  have hw := blocks4 (F := Ideal) m c t0_0 (flush0_4 t0_0)
  have hf : (dats (F := Ideal) m 0 c).flushed 4 t0_0
      = out0_4 (arg m c main_arg0) (arg m c main_arg1) (V m c main_v7) (V m c main_v8) := by
    rw [flushed4, iblk_0, iblk_1, iblk_2, iblk_3]
    exact funext fun _ => rfl
  rw [hf] at hw
  refine ((read_out4 c _).symm.trans hw).trans ?_
  unfold out0_4
  refine (canon_whole (s := S2x128x8640) ![0, 0, 0] _ z3 _).trans ?_
  rw [ld_whole (s := S2x128x2880) _ ![0, 0, 0] _ z3, ld_whole (s := S8640x2880) _ ![0, 0] _ z2,
    ld_whole (s := S1x1x8640) _ ![0, 0, 0] _ z3, ld_whole (s := S2x128x8640) _ ![0, 0, 0] _ z3]

theorem arr_codes : (dats (F := Ideal) m 0 c).arrAt 5 cfg0.N
    = (k0_pay5 (F := Ideal) (arg m c main_arg0) : S2x128x2880.Idx → EReal) := by
  have hw := blocks5 (F := Ideal) m c t0_0 (flush0_5 t0_0)
  have hf : (dats (F := Ideal) m 0 c).flushed 5 t0_0
      = out0_5 (arg m c main_arg0) (arg m c main_arg1) (V m c main_v7) (V m c main_v8) := by
    rw [flushed5, iblk_0, iblk_1, iblk_2, iblk_3]
    exact funext fun _ => rfl
  rw [hf] at hw
  refine ((read_out5 c _).symm.trans hw).trans ?_
  unfold out0_5
  refine (canon_whole (s := S2x128x2880) ![0, 0, 0] _ z3 _).trans ?_
  rw [ld_whole (s := S2x128x2880) _ ![0, 0, 0] _ z3]

theorem arr_scales : (dats (F := Ideal) m 0 c).arrAt 6 cfg0.N
    = (k0_pay6 (F := Ideal) (arg m c main_arg0) : S2x128.Idx → EReal) := by
  have hw := blocks6 (F := Ideal) m c t0_0 (flush0_6 t0_0)
  have hf : (dats (F := Ideal) m 0 c).flushed 6 t0_0
      = out0_6 (arg m c main_arg0) (arg m c main_arg1) (V m c main_v7) (V m c main_v8) := by
    rw [flushed6, iblk_0, iblk_1, iblk_2, iblk_3]
    exact funext fun _ => rfl
  rw [hf] at hw
  refine ((read_out6 c _).symm.trans hw).trans ?_
  unfold out0_6
  refine (canon_whole (s := S2x128) ![0, 0] _ z2 _).trans ?_
  rw [ld_whole (s := S2x128x2880) _ ![0, 0, 0] _ z3]

/-! ## The results, in the kernel's numbers -/

section Results

variable (hb : ∀ (b : Fin 2) (s : Fin 128), 0 ≤ level (Xm m c) b s ∧ level (Xm m c) b s < (((2 : ℝ) ^ (121 : ℤ) : ℝ) : EReal))

theorem hx (b : Fin 2) (s : Fin 128) (d : Fin 2880) : (arg m c main_arg0 : S2x128x2880.Idx → EReal) (ix3 b s d) = Xm m c b d s :=
  at3_ix _ b s d

include hb in
theorem scales_eq : (dats (F := Ideal) m 0 c).arrAt 6 cfg0.N = (fun i => xs (Xm m c) (i 0).val (i 1).val : S2x128.Idx → EReal) := by
  rw [arr_scales]
  funext i
  obtain ⟨b, s, rfl⟩ : ∃ (b : Fin 2) (s : Fin 128), i = ix2 b s := ⟨i 0, i 1, eq_ix2 i⟩
  refine (scales_at (Xm m c) _ (hx m c) b s).trans ?_
  exact (scale_eq _ (hb b s).1 (hb b s).2).1

include hb in
theorem codes_eq : (dats (F := Ideal) m 0 c).arrAt 5 cfg0.N
    = (fun i => code (Xm m c) (i 0).val (i 2).val (i 1).val : S2x128x2880.Idx → EReal) := by
  rw [arr_codes]
  funext i
  obtain ⟨b, s, d, rfl⟩ : ∃ (b : Fin 2) (s : Fin 128) (d : Fin 2880), i = ix3 b s d := ⟨i 0, i 1, i 2, eq_ix3 i⟩
  refine (codes_at (Xm m c) _ (hx m c) b s d).trans ?_
  rw [(scale_eq _ (hb b s).1 (hb b s).2).2]
  rfl

include hb in
theorem y_eq : (dats (F := Ideal) m 0 c).arrAt 4 cfg0.N
    = (fun i => out (Xm m c) (Wm m c) (Sm m c) (Cm m c) (Dm m c) (Um m c) (i 0).val (i 2).val (i 1).val : S2x128x8640.Idx → EReal) := by
  rw [arr_y]
  funext i
  obtain ⟨b, s, n, rfl⟩ : ∃ (b : Fin 2) (s : Fin 128) (n : Fin 8640), i = ix3 b s n := ⟨i 0, i 1, i 2, eq_ix3 i⟩
  refine (y_at (Xm m c) _ (hx m c) _ _ _ b s n).trans ?_
  rw [(scale_eq _ (hb b s).1 (hb b s).2).1, (scale_eq _ (hb b s).1 (hb b s).2).2, V_scale,
    show (V m c main_v8 : S2x128x8640.Idx → EReal) (ix3 b s n) = _ from V_adapter m c b s n]
  change _ = out (Xm m c) (Wm m c) (Sm m c) (Cm m c) (Dm m c) (Um m c) b n s
  unfold out acc lokr
  rw [show (128 * (b : ℕ) + s) / 128 = b by omega, show (128 * (b : ℕ) + s) % 128 = s by omega, mul_right_comm,
    mul_comm (Ideal.ofBits .f32 1053609165#32)]
  refine congrArg₂ (· + ·) (congrArg (· * _) (congrArg (· * _) (Finset.sum_congr rfl fun d _ => ?_))) rfl
  exact congrArg₂ (· * ·) rfl (at2_ix _ n d)

end Results

end Cert.ReferenceIdeal.Value

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KernelIdealEnd
public import proofs.«01_k».proof.Proof.ReferenceIdealEnd
public import proofs.«01_k».proof.Proof.Bound
public import Idealize.ShloMosaic.Adequacy
public import Idealize.ShloMosaic.Init

@[expose] public section

noncomputable section

namespace Cert.Proof

open Idealize.ShloMosaic Idealize.ShloMosaic.TcCoe Idealize.SL.Sem

/-- KERNEL AND REFERENCE COMPUTE THE SAME THREE RESULTS over the extended reals, where every entry of `x` is finite: the
    kernel's run names its results from its arguments, the reference's run names the same numbers from its own, and the
    arguments agree. -/
theorem algebraic : Cert.algebraic_KernelIdeal_ReferenceIdeal_pre_finite := by
  intro m g m' g' hpre hargs
  have hb : ∀ (c : Dev Cert.ReferenceIdeal.nD) (b : Fin 2) (s : Fin 128),
      0 ≤ Math.level (Cert.ReferenceIdeal.Value.Xm m' c) b s
        ∧ Math.level (Cert.ReferenceIdeal.Value.Xm m' c) b s < (((2 : ℝ) ^ (121 : ℤ) : ℝ) : EReal) := by
    intro c b s
    refine Math.level_bound _ _ _ fun d => ?_
    have h := Cert.KernelIdeal.Value.entries_finite _ _ _ _ _ _ (hpre c) (ix3 b s d)
    rw [← (hargs c).1] at h
    rw [← Cert.ReferenceIdeal.Value.hx m' c b s d]
    exact h
  have hX : ∀ c, Cert.ReferenceIdeal.Value.Xm m' c = Cert.KernelIdeal.Value.Xm m c := fun c => by
    unfold Cert.ReferenceIdeal.Value.Xm Cert.KernelIdeal.Value.Xm Cert.ReferenceIdeal.Value.arg
    rw [(hargs c).1]
  have hW : ∀ c, Cert.ReferenceIdeal.Value.Wm m' c = Cert.KernelIdeal.Value.Wm m c := fun c => by
    unfold Cert.ReferenceIdeal.Value.Wm Cert.KernelIdeal.Value.Wm Cert.ReferenceIdeal.Value.arg
    rw [(hargs c).2.1]
  have hS : ∀ c, Cert.ReferenceIdeal.Value.Sm m' c = Cert.KernelIdeal.Value.Sm m c := fun c => by
    unfold Cert.ReferenceIdeal.Value.Sm Cert.KernelIdeal.Value.Sm Cert.ReferenceIdeal.Value.arg
    rw [(hargs c).2.2.1]
  have hC : ∀ c, Cert.ReferenceIdeal.Value.Cm m' c = Cert.KernelIdeal.Value.Cm m c := fun c => by
    unfold Cert.ReferenceIdeal.Value.Cm Cert.KernelIdeal.Value.Cm Cert.ReferenceIdeal.Value.arg
    rw [(hargs c).2.2.2.1]
  have hD : ∀ c, Cert.ReferenceIdeal.Value.Dm m' c = Cert.KernelIdeal.Value.Dm m c := fun c => by
    unfold Cert.ReferenceIdeal.Value.Dm Cert.KernelIdeal.Value.Dm Cert.ReferenceIdeal.Value.arg
    rw [(hargs c).2.2.2.2.1]
  have hU : ∀ c, Cert.ReferenceIdeal.Value.Um m' c = Cert.KernelIdeal.Value.Um m c := fun c => by
    unfold Cert.ReferenceIdeal.Value.Um Cert.KernelIdeal.Value.Um Cert.ReferenceIdeal.Value.arg
    rw [(hargs c).2.2.2.2.2]
  refine ⟨fun c => Cert.KernelIdeal.Value.yOf m c, fun c => Cert.KernelIdeal.Value.codesOf m c,
    fun c => Cert.KernelIdeal.Value.scalesOf m c, Cert.KernelIdeal.Value.run_results m g, ?_⟩
  refine (θ_run Cert.ReferenceIdeal.defs _ _).mono (fun r h c => ?_) (Cert.ReferenceIdeal.Value.run_blocks (F := Ideal) m' g')
  obtain ⟨hy, hc, hs, hk⟩ := h c
  refine ⟨hy.trans ?_, hc.trans ?_, hs.trans ?_, hk⟩
  · refine (Cert.ReferenceIdeal.Value.y_eq m' c (hb c)).trans ?_
    rw [hX, hW, hS, hC, hD, hU]
    rfl
  · refine (Cert.ReferenceIdeal.Value.codes_eq m' c (hb c)).trans ?_
    rw [hX]
    rfl
  · refine (Cert.ReferenceIdeal.Value.scales_eq m' c (hb c)).trans ?_
    rw [hX]
    rfl

theorem claim : Cert.Claim :=
  ⟨Cert.Kernel.Gen.facts, Cert.KernelIdeal.Gen.facts, Cert.ReferenceIdeal.Gen.facts, Cert.Pre_finite.facts,
    fun m ρ _ => Cert.Kernel.Hand.frame m ρ, fun m ρ _ => Cert.KernelIdeal.Hand.frame m ρ,
    fun m ρ _ => Cert.KernelIdeal.Hand.frame m ρ,
    fun m ρ _ => Cert.ReferenceIdeal.Gen.frame m ρ, fun m ρ _ => Cert.ReferenceIdeal.Gen.frame m ρ, trivial, algebraic⟩

end Cert.Proof

end
